-- ==== Defs.lean ====
def Pre_Kernel [hPre_points_in_map : Cert.Pre_points_in_map.Facts] (m : (ℓ : Loc Cert.Kernel.nD Cert.Kernel.τ Cert.Kernel.sig) → Buf (Elt Bits) ℓ) : Prop :=
  ∀ c : Dev Cert.Kernel.nD,
    (Cert.Pre_points_in_map.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_points_in_map : Cert.Pre_points_in_map.Facts] (m : (ℓ : Loc Cert.KernelIdeal.nD Cert.KernelIdeal.τ Cert.KernelIdeal.sig) → Buf (Elt Ideal) ℓ) : Prop :=
  ∀ c : Dev Cert.KernelIdeal.nD,
    (Cert.Pre_points_in_map.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite_map [hPre_finite_map : Cert.Pre_finite_map.Facts] (m : (ℓ : Loc Cert.KernelIdeal.nD Cert.KernelIdeal.τ Cert.KernelIdeal.sig) → Buf (Elt Ideal) ℓ) : Prop :=
  ∀ c : Dev Cert.KernelIdeal.nD,
    (Cert.Pre_finite_map.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_map [hPre_finite_map : Cert.Pre_finite_map.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_map.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_points_in_map : Cert.Pre_points_in_map.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_points_in_map : Cert.Pre_points_in_map.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_map [hKernelIdeal : Cert.KernelIdeal.Facts] [hPre_finite_map : Cert.Pre_finite_map.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_map m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_map [hReferenceIdeal : Cert.ReferenceIdeal.Facts] [hPre_finite_map : Cert.Pre_finite_map.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_map m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_map [hKernelIdeal : Cert.KernelIdeal.Facts] [hReferenceIdeal : Cert.ReferenceIdeal.Facts] [hPre_finite_map : Cert.Pre_finite_map.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_map m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_points_in_map : Cert.Pre_points_in_map.Facts) (hPre_finite_map : Cert.Pre_finite_map.Facts),
    quiescent_Kernel (hKernel := hKernel) (hPre_points_in_map := hPre_points_in_map)
    ∧ quiescent_KernelIdeal (hKernelIdeal := hKernelIdeal) (hPre_points_in_map := hPre_points_in_map)
    ∧ quiescent_KernelIdeal_pre_finite_map (hKernelIdeal := hKernelIdeal) (hPre_finite_map := hPre_finite_map)
    ∧ quiescent_ReferenceIdeal (hReferenceIdeal := hReferenceIdeal)
    ∧ quiescent_ReferenceIdeal_pre_finite_map (hReferenceIdeal := hReferenceIdeal) (hPre_finite_map := hPre_finite_map)
    ∧ preserves_Kernel_KernelIdeal
    ∧ algebraic_KernelIdeal_ReferenceIdeal_pre_finite_map (hKernelIdeal := hKernelIdeal) (hReferenceIdeal := hReferenceIdeal) (hPre_finite_map := hPre_finite_map)
-- ==== Pre_finite_map.lean ====
abbrev S128x8192x2 : Shape := ⟨3, ![128, 8192, 2]⟩
abbrev S128x256x256 : Shape := ⟨3, ![128, 256, 256]⟩
abbrev S_ : Shape := ⟨0, ![]⟩

class Facts : Prop where
  bcast_S_S128x8192x2 : S_.BroadcastsInDim S128x8192x2 (![] : Fin 0 → Fin S128x8192x2.rank)
  reducesTo_S128x8192x2_S_d0_1_2 : S128x8192x2.ReducesTo [0, 1, 2] S_
  h_S_ : 0 < S_.numel
  bcast_S_S128x256x256 : S_.BroadcastsInDim S128x256x256 (![] : Fin 0 → Fin S128x256x256.rank)
  reducesTo_S128x256x256_S_d0_1_2 : S128x256x256.ReducesTo [0, 1, 2] S_

variable [Facts]

def fn {F : FTy → Type} [FloatOps F] (main_arg0 : FVec F S128x8192x2 .f32) (main_arg1 : FVec F S128x256x256 .f32) : IVec S_ 1 :=
  let main_cst : FVec F S_ .f32 := constant S_ .f32 0x43800000#32
  let main_v0 : FVec F S128x8192x2 .f32 := broadcastInDim S128x8192x2 ![] bcast_S_S128x8192x2 main_cst
  let main_v1 : FVec F S128x8192x2 .f32 := mulf main_arg0 main_v0
  let main_v2 : IVec S128x8192x2 32 := fptosi 32 main_v1
  let main_c : IVec S_ 32 := constantI S_ 32 0#32
  let main_v3 : IVec S128x8192x2 32 := broadcastInDim S128x8192x2 ![] bcast_S_S128x8192x2 main_c
  let main_v4 : IVec S128x8192x2 1 := cmpi .sge main_v2 main_v3
  let main_c_0 : IVec S_ 32 := constantI S_ 32 256#32
  let main_v5 : IVec S128x8192x2 32 := broadcastInDim S128x8192x2 ![] bcast_S_S128x8192x2 main_c_0
  let main_v6 : IVec S128x8192x2 1 := cmpi .slt main_v2 main_v5
  let main_v7 : IVec S128x8192x2 1 := andi main_v4 main_v6
  let main_c_1 : IVec S_ 1 := constantI S_ 1 1#1
  let main_v8 : IVec S_ 1 := (fun x v => Host.reduce IntOp.andi x v reducesTo_S128x8192x2_S_d0_1_2 h_S_) main_v7 main_c_1
  let main_v9 : FVec F S128x256x256 .f32 := Host.absf main_arg1
  let main_cst_2 : FVec F S_ .f32 := constant S_ .f32 0x7F800000#32
  let main_v10 : FVec F S128x256x256 .f32 := broadcastInDim S128x256x256 ![] bcast_S_S128x256x256 main_cst_2
  let main_v11 : IVec S128x256x256 1 := cmpf .olt main_v9 main_v10
  let main_c_3 : IVec S_ 1 := constantI S_ 1 1#1
  let main_v12 : IVec S_ 1 := (fun x v => Host.reduce IntOp.andi x v reducesTo_S128x256x256_S_d0_1_2 h_S_) main_v11 main_c_3
  let main_v13 : IVec S_ 1 := andi main_v8 main_v12
  main_v13
-- ==== Pre_points_in_map.lean ====
abbrev S128x8192x2 : Shape := ⟨3, ![128, 8192, 2]⟩
abbrev S128x256x256 : Shape := ⟨3, ![128, 256, 256]⟩
abbrev S_ : Shape := ⟨0, ![]⟩

class Facts : Prop where
  bcast_S_S128x8192x2 : S_.BroadcastsInDim S128x8192x2 (![] : Fin 0 → Fin S128x8192x2.rank)
  reducesTo_S128x8192x2_S_d0_1_2 : S128x8192x2.ReducesTo [0, 1, 2] S_
  h_S_ : 0 < S_.numel

variable [Facts]

def fn {F : FTy → Type} [FloatOps F] (main_arg0 : FVec F S128x8192x2 .f32) (main_arg1 : FVec F S128x256x256 .f32) : IVec S_ 1 :=
  let main_cst : FVec F S_ .f32 := constant S_ .f32 0x43800000#32
  let main_v0 : FVec F S128x8192x2 .f32 := broadcastInDim S128x8192x2 ![] bcast_S_S128x8192x2 main_cst
  let main_v1 : FVec F S128x8192x2 .f32 := mulf main_arg0 main_v0
  let main_v2 : IVec S128x8192x2 32 := fptosi 32 main_v1
  let main_c : IVec S_ 32 := constantI S_ 32 0#32
  let main_v3 : IVec S128x8192x2 32 := broadcastInDim S128x8192x2 ![] bcast_S_S128x8192x2 main_c
  let main_v4 : IVec S128x8192x2 1 := cmpi .sge main_v2 main_v3
  let main_c_0 : IVec S_ 32 := constantI S_ 32 256#32
  let main_v5 : IVec S128x8192x2 32 := broadcastInDim S128x8192x2 ![] bcast_S_S128x8192x2 main_c_0
  let main_v6 : IVec S128x8192x2 1 := cmpi .slt main_v2 main_v5
  let main_v7 : IVec S128x8192x2 1 := andi main_v4 main_v6
  let main_c_1 : IVec S_ 1 := constantI S_ 1 1#1
  let main_v8 : IVec S_ 1 := (fun x v => Host.reduce IntOp.andi x v reducesTo_S128x8192x2_S_d0_1_2 h_S_) main_v7 main_c_1
  main_v8
-- ==== Kernel.lean ====
abbrev S128x8192x2 : Shape := ⟨3, ![128, 8192, 2]⟩
abbrev S128x256x256 : Shape := ⟨3, ![128, 256, 256]⟩
abbrev S128x64x128x2 : Shape := ⟨4, ![128, 64, 128, 2]⟩
abbrev S128x64x2x128 : Shape := ⟨4, ![128, 64, 2, 128]⟩
abbrev S128x128x128 : Shape := ⟨3, ![128, 128, 128]⟩
abbrev S128x32x8x2x128 : Shape := ⟨5, ![128, 32, 8, 2, 128]⟩
abbrev S128x32x2x8x128 : Shape := ⟨5, ![128, 32, 2, 8, 128]⟩
abbrev S128x512x128 : Shape := ⟨3, ![128, 512, 128]⟩
abbrev S32x16 : Shape := ⟨2, ![32, 16]⟩
abbrev S512x128 : Shape := ⟨2, ![512, 128]⟩
abbrev S128x128 : Shape := ⟨2, ![128, 128]⟩
abbrev S16 : Shape := ⟨1, ![16]⟩
abbrev S_ : Shape := ⟨0, ![]⟩
abbrev S1x512x128 : Shape := ⟨3, ![1, 512, 128]⟩
abbrev S1x128x128 : Shape := ⟨3, ![1, 128, 128]⟩
abbrev S1x16 : Shape := ⟨2, ![1, 16]⟩

abbrev nBuf : Table → Nat
  | .hbm => 13
  | .local .scVector .vmem => 4
  | _ => 0

abbrev bufTy : (tb : Table) → Fin (nBuf tb) → BufTy
  | .hbm, ⟨0, _⟩ => ⟨S128x8192x2, .f32⟩
  | .hbm, ⟨1, _⟩ => ⟨S128x256x256, .f32⟩
  | .hbm, ⟨2, _⟩ => ⟨S128x64x128x2, .f32⟩
  | .hbm, ⟨3, _⟩ => ⟨S128x64x2x128, .f32⟩
  | .hbm, ⟨4, _⟩ => ⟨S128x128x128, .f32⟩
  | .hbm, ⟨5, _⟩ => ⟨S128x32x8x2x128, .f32⟩
  | .hbm, ⟨6, _⟩ => ⟨S128x32x2x8x128, .f32⟩
  | .hbm, ⟨7, _⟩ => ⟨S128x512x128, .f32⟩
  | .hbm, ⟨8, _⟩ => ⟨S32x16, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local .scVector .vmem, ⟨0, _⟩ => ⟨S512x128, .f32⟩
  | .local .scVector .vmem, ⟨1, _⟩ => ⟨S128x128, .f32⟩
  | .local .scVector .vmem, ⟨2, _⟩ => ⟨S128x128, .f32⟩
  | .local .scVector .vmem, ⟨3, _⟩ => ⟨S16, .f32⟩
  | _, _ => ⟨S128x8192x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v2_scv : Ref sig .scVector := ⟨.hbm, 4, rfl⟩
abbrev main_v5_scv : Ref sig .scVector := ⟨.hbm, 7, rfl⟩
abbrev main_v6_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32 : BitVec 32 := 0#32
  let c0_i32_0 : BitVec 32 := 0#32
  ![v2.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_3 : BitVec 32 := 0#32
  let c0_i32_4 : BitVec 32 := 0#32
  ![v2.toNat, 0, 0]
@[reducible] def k0_t1_loop : Scf.Loop 32 :=
  let c0_i32_7 : BitVec 32 := 0#32
  let c2_i32_8 : BitVec 32 := 2#32
  let v12 : BitVec 32 := Scalar.addi c0_i32_7 c2_i32_8
  let c1_i32 : BitVec 32 := 1#32
  ⟨c0_i32_7, v12, c1_i32⟩
def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_13 : BitVec 32 := 2#32
  let c0_i32_7 : BitVec 32 := 0#32
  let c1_i32 : BitVec 32 := 1#32
  let arg11 : BitVec 32 := Scf.iv c0_i32_7 c1_i32 k0_t1
  let v22 : BitVec 32 := Scalar.muli c2_i32_13 arg11
  let v23 : BitVec 32 := Scalar.addi v2 v22
  let c0_i32_14 : BitVec 32 := 0#32
  let c0_i32_15 : BitVec 32 := 0#32
  ![v23.toNat, 0, 0]
def k0_off4 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_13 : BitVec 32 := 2#32
  let c0_i32_7 : BitVec 32 := 0#32
  let c1_i32 : BitVec 32 := 1#32
  let arg11 : BitVec 32 := Scf.iv c0_i32_7 c1_i32 k0_t1
  let v22 : BitVec 32 := Scalar.muli c2_i32_13 arg11
  let v23 : BitVec 32 := Scalar.addi v2 v22
  let c0_i32_18 : BitVec 32 := 0#32
  let c0_i32_19 : BitVec 32 := 0#32
  ![v23.toNat, 0, 0]
def k0_off5 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_13 : BitVec 32 := 2#32
  let c0_i32_7 : BitVec 32 := 0#32
  let c1_i32 : BitVec 32 := 1#32
  let arg11 : BitVec 32 := Scf.iv c0_i32_7 c1_i32 k0_t1
  let v22 : BitVec 32 := Scalar.muli c2_i32_13 arg11
  let v23 : BitVec 32 := Scalar.addi v2 v22
  let c1_i32_22 : BitVec 32 := 1#32
  let v32 : BitVec 32 := Scalar.addi v23 c1_i32_22
  let c0_i32_23 : BitVec 32 := 0#32
  let c0_i32_24 : BitVec 32 := 0#32
  ![v32.toNat, 0, 0]
@[reducible] def k0_t2_loop : Scf.Loop 32 :=
  let c0_i32_27 : BitVec 32 := 0#32
  let c512_i32 : BitVec 32 := 512#32
  let v37 : BitVec 32 := Scalar.addi c0_i32_27 c512_i32
  let c1_i32_28 : BitVec 32 := 1#32
  ⟨c0_i32_27, v37, c1_i32_28⟩
def k0_off6 (k0_t2 : Fin k0_t2_loop.trips) : Fin 2 → Nat :=
  let c2_i32_59 : BitVec 32 := 2#32
  let c0_i32_27 : BitVec 32 := 0#32
  let c1_i32_28 : BitVec 32 := 1#32
  let arg14 : BitVec 32 := Scf.iv c0_i32_27 c1_i32_28 k0_t2
  let c0_i32_53 : BitVec 32 := 0#32
  let v63 : BitVec 1 := Scalar.cmpi .sgt arg14 c0_i32_53
  let v64 : BitVec 32 := Scalar.extui v63
  let c0_i32_54 : BitVec 32 := 0#32
  let v65 : BitVec 1 := Scalar.cmpi .slt arg14 c0_i32_54
  let v66 : BitVec 32 := Scalar.extui v65
  let v67 : BitVec 32 := Scalar.subi v64 v66
  let c8_i32 : BitVec 32 := 8#32
  let c0_i32_55 : BitVec 32 := 0#32
  let v68 : BitVec 1 := Scalar.cmpi .sgt c8_i32 c0_i32_55
  let v69 : BitVec 32 := Scalar.extui v68
  let c0_i32_56 : BitVec 32 := 0#32
  let v70 : BitVec 1 := Scalar.cmpi .slt c8_i32 c0_i32_56
  let v71 : BitVec 32 := Scalar.extui v70
  let v72 : BitVec 32 := Scalar.subi v69 v71
  let v73 : BitVec 1 := Scalar.cmpi .ne v67 v72
  let v74 : BitVec 32 := Scalar.remsi arg14 c8_i32
  let c0_i32_57 : BitVec 32 := 0#32
  let v75 : BitVec 1 := Scalar.cmpi .ne v74 c0_i32_57
  let v76 : BitVec 1 := Scalar.andi v73 v75
  let v62 : BitVec 32 := Scalar.divsi arg14 c8_i32
  let c1_i32_58 : BitVec 32 := 1#32
  let v77 : BitVec 32 := Scalar.subi v62 c1_i32_58
  let v78 : BitVec 32 := Scalar.select v76 v77 v62
  let v79 : BitVec 32 := Scalar.muli c2_i32_59 v78
  let v91 : Index := Scalar.indexCast v79
  let c16_i32 : BitVec 32 := 16#32
  let c8_i32_60 : BitVec 32 := 8#32
  let c0_i32_61 : BitVec 32 := 0#32
  let v80 : BitVec 1 := Scalar.cmpi .eq c8_i32_60 c0_i32_61
  let c1_i32_62 : BitVec 32 := 1#32
  let v81 : BitVec 32 := Scalar.select v80 c1_i32_62 c8_i32_60
  let v82 : BitVec 32 := Scalar.remsi arg14 v81
  let c0_i32_64 : BitVec 32 := 0#32
  let v84 : BitVec 1 := Scalar.cmpi .slt v82 c0_i32_64
  let c0_i32_65 : BitVec 32 := 0#32
  let v85 : BitVec 1 := Scalar.cmpi .slt v81 c0_i32_65
  let v86 : BitVec 1 := Scalar.xori v84 v85
  let c0_i32_63 : BitVec 32 := 0#32
  let v83 : BitVec 1 := Scalar.cmpi .ne v82 c0_i32_63
  let v87 : BitVec 1 := Scalar.andi v86 v83
  let v88 : BitVec 32 := Scalar.addi v82 v81
  let v89 : BitVec 32 := Scalar.select v87 v88 v82
  let v90 : BitVec 32 := Scalar.muli c16_i32 v89
  let v92 : Index := Scalar.indexCast v90
  ![v91.toNat, v92.toNat]
def k0_off7 (k0_t2 : Fin k0_t2_loop.trips) : Fin 2 → Nat :=
  let c2_i32_59 : BitVec 32 := 2#32
  let c0_i32_27 : BitVec 32 := 0#32
  let c1_i32_28 : BitVec 32 := 1#32
  let arg14 : BitVec 32 := Scf.iv c0_i32_27 c1_i32_28 k0_t2
  let c0_i32_53 : BitVec 32 := 0#32
  let v63 : BitVec 1 := Scalar.cmpi .sgt arg14 c0_i32_53
  let v64 : BitVec 32 := Scalar.extui v63
  let c0_i32_54 : BitVec 32 := 0#32
  let v65 : BitVec 1 := Scalar.cmpi .slt arg14 c0_i32_54
  let v66 : BitVec 32 := Scalar.extui v65
  let v67 : BitVec 32 := Scalar.subi v64 v66
  let c8_i32 : BitVec 32 := 8#32
  let c0_i32_55 : BitVec 32 := 0#32
  let v68 : BitVec 1 := Scalar.cmpi .sgt c8_i32 c0_i32_55
  let v69 : BitVec 32 := Scalar.extui v68
  let c0_i32_56 : BitVec 32 := 0#32
  let v70 : BitVec 1 := Scalar.cmpi .slt c8_i32 c0_i32_56
  let v71 : BitVec 32 := Scalar.extui v70
  let v72 : BitVec 32 := Scalar.subi v69 v71
  let v73 : BitVec 1 := Scalar.cmpi .ne v67 v72
  let v74 : BitVec 32 := Scalar.remsi arg14 c8_i32
  let c0_i32_57 : BitVec 32 := 0#32
  let v75 : BitVec 1 := Scalar.cmpi .ne v74 c0_i32_57
  let v76 : BitVec 1 := Scalar.andi v73 v75
  let v62 : BitVec 32 := Scalar.divsi arg14 c8_i32
  let c1_i32_58 : BitVec 32 := 1#32
  let v77 : BitVec 32 := Scalar.subi v62 c1_i32_58
  let v78 : BitVec 32 := Scalar.select v76 v77 v62
  let v79 : BitVec 32 := Scalar.muli c2_i32_59 v78
  let c1_i32_66 : BitVec 32 := 1#32
  let v94 : BitVec 32 := Scalar.addi v79 c1_i32_66
  let v95 : Index := Scalar.indexCast v94
  let c16_i32 : BitVec 32 := 16#32
  let c8_i32_60 : BitVec 32 := 8#32
  let c0_i32_61 : BitVec 32 := 0#32
  let v80 : BitVec 1 := Scalar.cmpi .eq c8_i32_60 c0_i32_61
  let c1_i32_62 : BitVec 32 := 1#32
  let v81 : BitVec 32 := Scalar.select v80 c1_i32_62 c8_i32_60
  let v82 : BitVec 32 := Scalar.remsi arg14 v81
  let c0_i32_64 : BitVec 32 := 0#32
  let v84 : BitVec 1 := Scalar.cmpi .slt v82 c0_i32_64
  let c0_i32_65 : BitVec 32 := 0#32
  let v85 : BitVec 1 := Scalar.cmpi .slt v81 c0_i32_65
  let v86 : BitVec 1 := Scalar.xori v84 v85
  let c0_i32_63 : BitVec 32 := 0#32
  let v83 : BitVec 1 := Scalar.cmpi .ne v82 c0_i32_63
  let v87 : BitVec 1 := Scalar.andi v86 v83
  let v88 : BitVec 32 := Scalar.addi v82 v81
  let v89 : BitVec 32 := Scalar.select v87 v88 v82
  let v90 : BitVec 32 := Scalar.muli c16_i32 v89
  let v96 : Index := Scalar.indexCast v90
  ![v95.toNat, v96.toNat]

def k0_chk1 (v111 : IVec S16 32) (v113 : IVec S16 32) : Prop :=
  (∀ a x, ((![v111, v113] : Fin 2 → IVec S16 32) a x).toNat < S512x128.size a)
theorem k0_idx1_inb : ∀ (v111 : IVec S16 32) (v113 : IVec S16 32) (k0_hw1 : k0_chk1 v111 v113), ∀ a x, ((![v111, v113] : Fin 2 → IVec S16 32) a x).toNat < S512x128.size a := fun v111 v113 k0_hw1 => k0_hw1
def k0_off8 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_13 : BitVec 32 := 2#32
  let c0_i32_7 : BitVec 32 := 0#32
  let c1_i32 : BitVec 32 := 1#32
  let arg11 : BitVec 32 := Scf.iv c0_i32_7 c1_i32 k0_t1
  let v22 : BitVec 32 := Scalar.muli c2_i32_13 arg11
  let v23 : BitVec 32 := Scalar.addi v2 v22
  let c1_i32_30 : BitVec 32 := 1#32
  let v39 : BitVec 32 := Scalar.addi v23 c1_i32_30
  let c0_i32_31 : BitVec 32 := 0#32
  let c0_i32_32 : BitVec 32 := 0#32
  ![v39.toNat, 0, 0]
def k0_cond1 (k0_t1 : Fin k0_t1_loop.trips) : BitVec 1 :=
  let c0_i32_7 : BitVec 32 := 0#32
  let c1_i32 : BitVec 32 := 1#32
  let arg11 : BitVec 32 := Scf.iv c0_i32_7 c1_i32 k0_t1
  let c1_i32_45 : BitVec 32 := 1#32
  let v54 : BitVec 1 := Scalar.cmpi .slt arg11 c1_i32_45
  let v55 : BitVec 32 := Scalar.extui v54
  let c0_i32_46 : BitVec 32 := 0#32
  let v56 : BitVec 1 := Scalar.cmpi .ne v55 c0_i32_46
  v56

def k0_off9 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_13 : BitVec 32 := 2#32
  let c0_i32_7 : BitVec 32 := 0#32
  let c1_i32 : BitVec 32 := 1#32
  let arg11 : BitVec 32 := Scf.iv c0_i32_7 c1_i32 k0_t1
  let v22 : BitVec 32 := Scalar.muli c2_i32_13 arg11
  let v23 : BitVec 32 := Scalar.addi v2 v22
  let c2_i32_53 : BitVec 32 := 2#32
  let v62 : BitVec 32 := Scalar.addi v23 c2_i32_53
  let c0_i32_54 : BitVec 32 := 0#32
  let c0_i32_55 : BitVec 32 := 0#32
  ![v62.toNat, 0, 0]
@[reducible] def k0_t3_loop : Scf.Loop 32 :=
  let c0_i32_47 : BitVec 32 := 0#32
  let c512_i32_48 : BitVec 32 := 512#32
  let v57 : BitVec 32 := Scalar.addi c0_i32_47 c512_i32_48
  let c1_i32_49 : BitVec 32 := 1#32
  ⟨c0_i32_47, v57, c1_i32_49⟩
def k0_off10 (k0_t3 : Fin k0_t3_loop.trips) : Fin 2 → Nat :=
  let c2_i32_59 : BitVec 32 := 2#32
  let c0_i32_47 : BitVec 32 := 0#32
  let c1_i32_49 : BitVec 32 := 1#32
  let arg14 : BitVec 32 := Scf.iv c0_i32_47 c1_i32_49 k0_t3
  let c0_i32_53 : BitVec 32 := 0#32
  let v63 : BitVec 1 := Scalar.cmpi .sgt arg14 c0_i32_53
  let v64 : BitVec 32 := Scalar.extui v63
  let c0_i32_54 : BitVec 32 := 0#32
  let v65 : BitVec 1 := Scalar.cmpi .slt arg14 c0_i32_54
  let v66 : BitVec 32 := Scalar.extui v65
  let v67 : BitVec 32 := Scalar.subi v64 v66
  let c8_i32 : BitVec 32 := 8#32
  let c0_i32_55 : BitVec 32 := 0#32
  let v68 : BitVec 1 := Scalar.cmpi .sgt c8_i32 c0_i32_55
  let v69 : BitVec 32 := Scalar.extui v68
  let c0_i32_56 : BitVec 32 := 0#32
  let v70 : BitVec 1 := Scalar.cmpi .slt c8_i32 c0_i32_56
  let v71 : BitVec 32 := Scalar.extui v70
  let v72 : BitVec 32 := Scalar.subi v69 v71
  let v73 : BitVec 1 := Scalar.cmpi .ne v67 v72
  let v74 : BitVec 32 := Scalar.remsi arg14 c8_i32
  let c0_i32_57 : BitVec 32 := 0#32
  let v75 : BitVec 1 := Scalar.cmpi .ne v74 c0_i32_57
  let v76 : BitVec 1 := Scalar.andi v73 v75
  let v62 : BitVec 32 := Scalar.divsi arg14 c8_i32
  let c1_i32_58 : BitVec 32 := 1#32
  let v77 : BitVec 32 := Scalar.subi v62 c1_i32_58
  let v78 : BitVec 32 := Scalar.select v76 v77 v62
  let v79 : BitVec 32 := Scalar.muli c2_i32_59 v78
  let v91 : Index := Scalar.indexCast v79
  let c16_i32 : BitVec 32 := 16#32
  let c8_i32_60 : BitVec 32 := 8#32
  let c0_i32_61 : BitVec 32 := 0#32
  let v80 : BitVec 1 := Scalar.cmpi .eq c8_i32_60 c0_i32_61
  let c1_i32_62 : BitVec 32 := 1#32
  let v81 : BitVec 32 := Scalar.select v80 c1_i32_62 c8_i32_60
  let v82 : BitVec 32 := Scalar.remsi arg14 v81
  let c0_i32_64 : BitVec 32 := 0#32
  let v84 : BitVec 1 := Scalar.cmpi .slt v82 c0_i32_64
  let c0_i32_65 : BitVec 32 := 0#32
  let v85 : BitVec 1 := Scalar.cmpi .slt v81 c0_i32_65
  let v86 : BitVec 1 := Scalar.xori v84 v85
  let c0_i32_63 : BitVec 32 := 0#32
  let v83 : BitVec 1 := Scalar.cmpi .ne v82 c0_i32_63
  let v87 : BitVec 1 := Scalar.andi v86 v83
  let v88 : BitVec 32 := Scalar.addi v82 v81
  let v89 : BitVec 32 := Scalar.select v87 v88 v82
  let v90 : BitVec 32 := Scalar.muli c16_i32 v89
  let v92 : Index := Scalar.indexCast v90
  ![v91.toNat, v92.toNat]
def k0_off11 (k0_t3 : Fin k0_t3_loop.trips) : Fin 2 → Nat :=
  let c2_i32_59 : BitVec 32 := 2#32
  let c0_i32_47 : BitVec 32 := 0#32
  let c1_i32_49 : BitVec 32 := 1#32
  let arg14 : BitVec 32 := Scf.iv c0_i32_47 c1_i32_49 k0_t3
  let c0_i32_53 : BitVec 32 := 0#32
  let v63 : BitVec 1 := Scalar.cmpi .sgt arg14 c0_i32_53
  let v64 : BitVec 32 := Scalar.extui v63
  let c0_i32_54 : BitVec 32 := 0#32
  let v65 : BitVec 1 := Scalar.cmpi .slt arg14 c0_i32_54
  let v66 : BitVec 32 := Scalar.extui v65
  let v67 : BitVec 32 := Scalar.subi v64 v66
  let c8_i32 : BitVec 32 := 8#32
  let c0_i32_55 : BitVec 32 := 0#32
  let v68 : BitVec 1 := Scalar.cmpi .sgt c8_i32 c0_i32_55
  let v69 : BitVec 32 := Scalar.extui v68
  let c0_i32_56 : BitVec 32 := 0#32
  let v70 : BitVec 1 := Scalar.cmpi .slt c8_i32 c0_i32_56
  let v71 : BitVec 32 := Scalar.extui v70
  let v72 : BitVec 32 := Scalar.subi v69 v71
  let v73 : BitVec 1 := Scalar.cmpi .ne v67 v72
  let v74 : BitVec 32 := Scalar.remsi arg14 c8_i32
  let c0_i32_57 : BitVec 32 := 0#32
  let v75 : BitVec 1 := Scalar.cmpi .ne v74 c0_i32_57
  let v76 : BitVec 1 := Scalar.andi v73 v75
  let v62 : BitVec 32 := Scalar.divsi arg14 c8_i32
  let c1_i32_58 : BitVec 32 := 1#32
  let v77 : BitVec 32 := Scalar.subi v62 c1_i32_58
  let v78 : BitVec 32 := Scalar.select v76 v77 v62
  let v79 : BitVec 32 := Scalar.muli c2_i32_59 v78
  let c1_i32_66 : BitVec 32 := 1#32
  let v94 : BitVec 32 := Scalar.addi v79 c1_i32_66
  let v95 : Index := Scalar.indexCast v94
  let c16_i32 : BitVec 32 := 16#32
  let c8_i32_60 : BitVec 32 := 8#32
  let c0_i32_61 : BitVec 32 := 0#32
  let v80 : BitVec 1 := Scalar.cmpi .eq c8_i32_60 c0_i32_61
  let c1_i32_62 : BitVec 32 := 1#32
  let v81 : BitVec 32 := Scalar.select v80 c1_i32_62 c8_i32_60
  let v82 : BitVec 32 := Scalar.remsi arg14 v81
  let c0_i32_64 : BitVec 32 := 0#32
  let v84 : BitVec 1 := Scalar.cmpi .slt v82 c0_i32_64
  let c0_i32_65 : BitVec 32 := 0#32
  let v85 : BitVec 1 := Scalar.cmpi .slt v81 c0_i32_65
  let v86 : BitVec 1 := Scalar.xori v84 v85
  let c0_i32_63 : BitVec 32 := 0#32
  let v83 : BitVec 1 := Scalar.cmpi .ne v82 c0_i32_63
  let v87 : BitVec 1 := Scalar.andi v86 v83
  let v88 : BitVec 32 := Scalar.addi v82 v81
  let v89 : BitVec 32 := Scalar.select v87 v88 v82
  let v90 : BitVec 32 := Scalar.muli c16_i32 v89
  let v96 : Index := Scalar.indexCast v90
  ![v95.toNat, v96.toNat]

def k0_chk2 (v111 : IVec S16 32) (v113 : IVec S16 32) : Prop :=
  (∀ a x, ((![v111, v113] : Fin 2 → IVec S16 32) a x).toNat < S512x128.size a)
theorem k0_idx2_inb : ∀ (v111 : IVec S16 32) (v113 : IVec S16 32) (k0_hw2 : k0_chk2 v111 v113), ∀ a x, ((![v111, v113] : Fin 2 → IVec S16 32) a x).toNat < S512x128.size a := fun v111 v113 k0_hw2 => k0_hw2
def k0_cond2 (k0_t1 : Fin k0_t1_loop.trips) : BitVec 1 :=
  let c0_i32_7 : BitVec 32 := 0#32
  let c1_i32 : BitVec 32 := 1#32
  let arg11 : BitVec 32 := Scf.iv c0_i32_7 c1_i32 k0_t1
  let c1_i32_51 : BitVec 32 := 1#32
  let v59 : BitVec 1 := Scalar.cmpi .slt arg11 c1_i32_51
  let v60 : BitVec 32 := Scalar.extui v59
  let c0_i32_52 : BitVec 32 := 0#32
  let v61 : BitVec 1 := Scalar.cmpi .ne v60 c0_i32_52
  v61

def k0_off12 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_13 : BitVec 32 := 2#32
  let c0_i32_7 : BitVec 32 := 0#32
  let c1_i32 : BitVec 32 := 1#32
  let arg11 : BitVec 32 := Scf.iv c0_i32_7 c1_i32 k0_t1
  let v22 : BitVec 32 := Scalar.muli c2_i32_13 arg11
  let v23 : BitVec 32 := Scalar.addi v2 v22
  let c2_i32_53 : BitVec 32 := 2#32
  let v62 : BitVec 32 := Scalar.addi v23 c2_i32_53
  let c0_i32_54 : BitVec 32 := 0#32
  let c0_i32_55 : BitVec 32 := 0#32
  ![v62.toNat, 0, 0]
def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_13_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x8192x2 : Shape := ⟨3, ![128, 8192, 2]⟩
abbrev S128x256x256 : Shape := ⟨3, ![128, 256, 256]⟩
abbrev S_ : Shape := ⟨0, ![]⟩
abbrev S128x8192x1 : Shape := ⟨3, ![128, 8192, 1]⟩
abbrev S128x8192 : Shape := ⟨2, ![128, 8192]⟩
abbrev S128x65536 : Shape := ⟨2, ![128, 65536]⟩
abbrev S1 : Shape := ⟨1, ![1]⟩
abbrev S1x1x1 : Shape := ⟨3, ![1, 1, 1]⟩
abbrev S128 : Shape := ⟨1, ![128]⟩

abbrev nBuf : Space → Nat
  | .hbm => 67
  | .vmem => 0
  | .smem => 0
  | _ => 0

abbrev bufTy : (tb : Table) → Fin (tcTables nBuf tb) → BufTy
  | .hbm, ⟨0, _⟩ => ⟨S128x8192x2, .f32⟩
  | .hbm, ⟨1, _⟩ => ⟨S128x256x256, .f32⟩
  | .hbm, ⟨2, _⟩ => ⟨S_, .f32⟩
  | .hbm, ⟨3, _⟩ => ⟨S128x256x256, .f32⟩
  | .hbm, ⟨4, _⟩ => ⟨S128x256x256, .f32⟩
  | .hbm, ⟨5, _⟩ => ⟨S_, .f32⟩
  | .hbm, ⟨6, _⟩ => ⟨S128x256x256, .f32⟩
  | .hbm, ⟨7, _⟩ => ⟨S128x256x256, .f32⟩
  | .hbm, ⟨8, _⟩ => ⟨S_, .f32⟩
  | .hbm, ⟨9, _⟩ => ⟨S128x256x256, .f32⟩
  | .hbm, ⟨10, _⟩ => ⟨S128x256x256, .f32⟩
  | .hbm, ⟨11, _⟩ => ⟨S_, .f32⟩
  | .hbm, ⟨12, _⟩ => ⟨S128x256x256, .f32⟩
  | .hbm, ⟨13, _⟩ => ⟨S128x256x256, .f32⟩
  | .hbm, ⟨14, _⟩ => ⟨S_, .f32⟩
  | .hbm, ⟨15, _⟩ => ⟨S128x8192x2, .f32⟩
  | .hbm, ⟨16, _⟩ => ⟨S128x8192x2, .f32⟩
  | .hbm, ⟨17, _⟩ => ⟨S128x8192x2, .i32⟩
  | .hbm, ⟨18, _⟩ => ⟨S128x8192x1, .i32⟩
  | .hbm, ⟨19, _⟩ => ⟨S128x8192, .i32⟩
  | .hbm, ⟨20, _⟩ => ⟨S128x8192x1, .i32⟩
  | .hbm, ⟨21, _⟩ => ⟨S128x8192, .i32⟩
  | .hbm, ⟨22, _⟩ => ⟨S_, .i32⟩
  | .hbm, ⟨23, _⟩ => ⟨S128x8192, .i32⟩
  | .hbm, ⟨24, _⟩ => ⟨S128x8192, .i32⟩
  | .hbm, ⟨25, _⟩ => ⟨S128x8192, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S128x8192, .i32⟩
  | .hbm, ⟨30, _⟩ => ⟨S128x8192, .i32⟩
  | .hbm, ⟨31, _⟩ => ⟨S_, .i32⟩
  | .hbm, ⟨32, _⟩ => ⟨S128x8192, .i32⟩
  | .hbm, ⟨33, _⟩ => ⟨S128x8192, .i32⟩
  | .hbm, ⟨34, _⟩ => ⟨S128x65536, .f32⟩
  | .hbm, ⟨35, _⟩ => ⟨S_, .i32⟩
  | .hbm, ⟨36, _⟩ => ⟨S128x8192, .i32⟩
  | .hbm, ⟨37, _⟩ => ⟨S128x8192, .i1⟩
  | .hbm, ⟨38, _⟩ => ⟨S_, .i32⟩
  | .hbm, ⟨39, _⟩ => ⟨S128x8192, .i32⟩
  | .hbm, ⟨40, _⟩ => ⟨S128x8192, .i32⟩
  | .hbm, ⟨41, _⟩ => ⟨S128x8192, .i32⟩
  | .hbm, ⟨42, _⟩ => ⟨S128x8192x1, .i32⟩
  | .hbm, ⟨43, _⟩ => ⟨S1, .i32⟩
  | .hbm, ⟨44, _⟩ => ⟨S_, .i32⟩
  | .hbm, ⟨45, _⟩ => ⟨S128x8192x1, .i32⟩
  | .hbm, ⟨46, _⟩ => ⟨S128x8192x1, .i1⟩
  | .hbm, ⟨47, _⟩ => ⟨S1x1x1, .i32⟩
  | .hbm, ⟨48, _⟩ => ⟨S128x8192x1, .i32⟩
  | .hbm, ⟨49, _⟩ => ⟨S128x8192x1, .i1⟩
  | .hbm, ⟨50, _⟩ => ⟨S128x8192x1, .i1⟩
  | .hbm, ⟨51, _⟩ => ⟨S_, .i1⟩
  | .hbm, ⟨52, _⟩ => ⟨S128x8192, .i1⟩
  | .hbm, ⟨53, _⟩ => ⟨S128x8192, .f32⟩
  | .hbm, ⟨54, _⟩ => ⟨S_, .f32⟩
  | .hbm, ⟨55, _⟩ => ⟨S128x8192, .f32⟩
  | .hbm, ⟨56, _⟩ => ⟨S128x8192, .f32⟩
  | .hbm, ⟨57, _⟩ => ⟨S128x8192, .f32⟩
  | .hbm, ⟨58, _⟩ => ⟨S_, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S128x8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_c_5 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v18 : Ref sig .tc := ⟨.hbm, 33, rfl⟩
abbrev main_v19 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v20 : Ref sig .tc := ⟨.hbm, 56, rfl⟩
abbrev main_v21 : Ref sig .tc := ⟨.hbm, 57, rfl⟩
abbrev main_cst_6 : Ref sig .tc := ⟨.hbm, 58, rfl⟩
abbrev main_v22 : Ref sig .tc := ⟨.hbm, 59, rfl⟩
abbrev main_cst_7 : Ref sig .tc := ⟨.hbm, 60, rfl⟩
abbrev main_v23 : Ref sig .tc := ⟨.hbm, 61, rfl⟩
abbrev main_v24 : Ref sig .tc := ⟨.hbm, 62, rfl⟩
abbrev main_cst_8 : Ref sig .tc := ⟨.hbm, 63, rfl⟩
abbrev main_v25 : Ref sig .tc := ⟨.hbm, 64, rfl⟩
abbrev main_cst_9 : Ref sig .tc := ⟨.hbm, 65, rfl⟩
abbrev main_v26 : Ref sig .tc := ⟨.hbm, 66, rfl⟩

abbrev nD : Nat := 1
abbrev τ : Topo := Topo.v7x

variable {F : FTy → Type} [FloatOps F]
-- ==== Proof.Trip.lean ====
/-
  One trip of the kernel's inner loop as a function of the two buffers it reads, and the running sums it carries:
  what the loads, the index arithmetic and the gather give, with the range of the indices under the assumption that
  every coordinate of the sample's points, scaled by 256 and converted, is below 256.
-/
module

public import proofs.«01_k».proof.Defs
public import Idealize.ShloMosaic.Lib.ValueIdxCore
public import Idealize.ShloMosaic.Lib.ValueLayout
public import Idealize.ShloMosaic.Lib.Pipeline.Value
public import proofs.«01_k».proof.Proof.Gen.KernelIdeal
public import proofs.«01_k».proof.Proof.Gen.KernelIdeal.Skeleton

@[expose] public section

noncomputable section

namespace Cert.Proof.Trip

open Cert.KernelIdeal Cert.KernelIdeal.Gen
open Idealize.ShloMosaic Idealize.ShloMosaic.ValueIdx

variable {F : FTy → Type} [FloatOps F]

/-- The word a coordinate is converted to: the coordinate times 256, truncated. -/
def wordOf (y : F .f32) : BitVec 32 := FloatOps.fptosi 32 (FloatOps.mulf y (Scalar.ofBits .f32 0x43800000#32))

/-- Sixteen consecutive words of a row of the coordinate buffer, from column `16 c`. -/
def yRow (yb : S128x128.Idx → F .f32) (r c : ℕ) : FVec F S16 .f32 :=
  fun x => yb (ix2 (⟨r % 128, Nat.mod_lt _ (by decide)⟩ : Fin 128) (⟨(16 * c + (x 0).val) % 128, Nat.mod_lt _ (by decide)⟩ : Fin 128))

/-- The columns of the map at trip `k`, lane by lane. -/
def colW (yb : S128x128.Idx → F .f32) (k : ℕ) : IVec S16 32 := fun x => wordOf (yRow yb (2 * (k / 8)) (k % 8) x)
/-- The rows of the map at trip `k`. -/
def rowW (yb : S128x128.Idx → F .f32) (k : ℕ) : IVec S16 32 := fun x => wordOf (yRow yb (2 * (k / 8) + 1) (k % 8) x)

/-- The row of the map's buffer that the gather takes at trip `k`. -/
def qW (yb : S128x128.Idx → F .f32) (k : ℕ) : IVec S16 32 := fun x =>
  (rowW yb k x + (rowW yb k x &&& 4294967288#32)) + IntOp.shrsi .vector (colW yb k x &&& 128#32) 4#32
/-- And the column. -/
def lW (yb : S128x128.Idx → F .f32) (k : ℕ) : IVec S16 32 := fun x => colW yb k x &&& 127#32

/-- The words gathered at trip `k`. -/
def got (dv : S512x128.Idx → F .f32) (yb : S128x128.Idx → F .f32) (k : ℕ) : FVec F S16 .f32 :=
  fun x => dv (ix2 (⟨(qW yb k x).toNat % 512, Nat.mod_lt _ (by decide)⟩ : Fin 512) (⟨(lW yb k x).toNat % 128, Nat.mod_lt _ (by decide)⟩ : Fin 128))

/-- One trip: the squares and the values themselves, each added to its sum. -/
def stepV (dv : S512x128.Idx → F .f32) (yb : S128x128.Idx → F .f32) (k : ℕ) (a : FVec F S16 .f32 × FVec F S16 .f32) :
    FVec F S16 .f32 × FVec F S16 .f32 :=
  (addf a.1 (mulf (got dv yb k) (got dv yb k)), addf a.2 (got dv yb k))

/-- The sums after `k` trips. -/
def runV (dv : S512x128.Idx → F .f32) (yb : S128x128.Idx → F .f32) (a : FVec F S16 .f32 × FVec F S16 .f32) :
    ℕ → FVec F S16 .f32 × FVec F S16 .f32
  | 0 => a
  | k + 1 => stepV dv yb k (runV dv yb a k)

theorem trips2 : k0_t2_loop.trips = 512 := by decide
theorem trips3 : k0_t3_loop.trips = 512 := by decide
theorem trips1 : k0_t1_loop.trips = 2 := by decide

theorem off6_eq : ∀ k : Fin k0_t2_loop.trips, k0_off6 k = ![2 * (k.val / 8), 16 * (k.val % 8)] := by decide +kernel
theorem off7_eq : ∀ k : Fin k0_t2_loop.trips, k0_off7 k = ![2 * (k.val / 8) + 1, 16 * (k.val % 8)] := by decide +kernel
theorem off10_eq : ∀ k : Fin k0_t3_loop.trips, k0_off10 k = ![2 * (k.val / 8), 16 * (k.val % 8)] := by decide +kernel
theorem off11_eq : ∀ k : Fin k0_t3_loop.trips, k0_off11 k = ![2 * (k.val / 8) + 1, 16 * (k.val % 8)] := by decide +kernel

/-- A row of sixteen words loaded from the first coordinate buffer, its unit axis dropped. -/
theorem load_row1 (yb : S128x128.Idx → F .f32) {off : Fin 2 → ℕ} (inb : ∀ a, off a + S1x16.size a ≤ S128x128.size a) {r c : ℕ}
    (ho : off = ![r, 16 * c]) :
    shapeCast S16 ((Memref.whole cc0_scratch1 : Memref sig .scVector .vmem S128x128 .f32).view.readAt (Elt F)
      (Rect.unit (s := S128x128) off S1x16.size inb).toLoadRect yb) shapeCasts_S1x16_S16 = yRow yb r c := by
  subst ho
  funext x
  obtain ⟨l, rfl⟩ : ∃ l : Fin 16, x = ix1 l := ⟨x 0, by funext a; rw [Subsingleton.elim a 0]⟩
  have h0 : r + 1 ≤ 128 := inb 0
  have h1 : 16 * c + 16 ≤ 128 := inb 1
  have hl := l.isLt
  refine (shapeCast_1a_a_apply _ _ _).trans ?_
  unfold yRow
  show yb _ = yb _
  congr 1
  funext a
  apply Fin.ext
  match a with
  | ⟨0, _⟩ => show r + 1 * 0 = r % 128; omega
  | ⟨1, _⟩ => show 16 * c + 1 * l.val = (16 * c + l.val) % 128; omega

/-- The same, from the second coordinate buffer. -/
theorem load_row2 (yb : S128x128.Idx → F .f32) {off : Fin 2 → ℕ} (inb : ∀ a, off a + S1x16.size a ≤ S128x128.size a) {r c : ℕ}
    (ho : off = ![r, 16 * c]) :
    shapeCast S16 ((Memref.whole cc0_scratch2 : Memref sig .scVector .vmem S128x128 .f32).view.readAt (Elt F)
      (Rect.unit (s := S128x128) off S1x16.size inb).toLoadRect yb) shapeCasts_S1x16_S16 = yRow yb r c :=
  load_row1 yb inb ho

/-- The index words, exactly. -/
theorem idx_words (r c : BitVec 32) (hr : r.toNat < 256) (hc : c.toNat < 256) :
    ((r + (r &&& 4294967288#32)) + IntOp.shrsi .vector (c &&& 128#32) 4#32).toNat = 16 * (r.toNat / 8) + r.toNat % 8 + 8 * (c.toNat / 128)
      ∧ (c &&& 127#32).toNat = c.toNat % 128 := by
  have h1 : ∀ n : Fin 256, (BitVec.ofNat 32 n.val + (BitVec.ofNat 32 n.val &&& 4294967288#32)).toNat = 16 * (n.val / 8) + n.val % 8 := by decide +kernel
  have h2 : ∀ n : Fin 256, (IntOp.shrsi .vector (BitVec.ofNat 32 n.val &&& 128#32) 4#32).toNat = 8 * (n.val / 128)
      ∧ (BitVec.ofNat 32 n.val &&& 127#32).toNat = n.val % 128 := by decide +kernel
  have er : BitVec.ofNat 32 r.toNat = r := by simp
  have ec : BitVec.ofNat 32 c.toNat = c := by simp
  have a := h1 ⟨r.toNat, hr⟩
  have b := h2 ⟨c.toNat, hc⟩
  simp only [er, ec] at a b
  refine ⟨?_, b.2⟩
  rw [BitVec.toNat_add, a, b.1]; omega

/-- Every coordinate of the buffer is in the map. -/
def InMap (yb : S128x128.Idx → F .f32) : Prop := ∀ j, (wordOf (yb j)).toNat < 256

theorem qW_toNat {yb : S128x128.Idx → F .f32} (h : InMap yb) (k : ℕ) (x : S16.Idx) :
    (qW yb k x).toNat = 16 * ((rowW yb k x).toNat / 8) + (rowW yb k x).toNat % 8 + 8 * ((colW yb k x).toNat / 128) :=
  (idx_words _ _ (h _) (h _)).1
theorem lW_toNat {yb : S128x128.Idx → F .f32} (h : InMap yb) (k : ℕ) (x : S16.Idx) :
    (lW yb k x).toNat = (colW yb k x).toNat % 128 := (idx_words (rowW yb k x) _ (h _) (h _)).2
theorem qW_lt {yb : S128x128.Idx → F .f32} (h : InMap yb) (k : ℕ) (x : S16.Idx) : (qW yb k x).toNat < 512 := by
  rw [qW_toNat h]; have h1 : (rowW yb k x).toNat < 256 := h _; have h2 : (colW yb k x).toNat < 256 := h _; omega
theorem lW_lt {yb : S128x128.Idx → F .f32} (h : InMap yb) (k : ℕ) (x : S16.Idx) : (lW yb k x).toNat < 128 := by
  rw [lW_toNat h]; omega

/-- The gather's side condition at trip `k`. -/
theorem chk {yb : S128x128.Idx → F .f32} (h : InMap yb) (k : ℕ) :
    ∀ a x, ((![qW yb k, lW yb k] : Fin 2 → IVec S16 32) a x).toNat < S512x128.size a := by
  intro a x
  match a with
  | ⟨0, _⟩ => exact qW_lt h k x
  | ⟨1, _⟩ => exact lW_lt h k x

/-- The gather under its side condition is `got`. -/
theorem loadIdx_got {dv : S512x128.Idx → F .f32} {yb : S128x128.Idx → F .f32} (h : InMap yb) (k : ℕ)
    (hc : ∀ a x, ((![qW yb k, lW yb k] : Fin 2 → IVec S16 32) a x).toNat < S512x128.size a) :
    loadIdx (F := F) (e := .f32) dv (![qW yb k, lW yb k] : Fin 2 → IVec S16 32) hc = got dv yb k := by
  funext x
  unfold loadIdx got
  congr 1
  funext a
  apply Fin.ext
  match a with
  | ⟨0, _⟩ => exact (Nat.mod_eq_of_lt (qW_lt h k x)).symm
  | ⟨1, _⟩ => exact (Nat.mod_eq_of_lt (lW_lt h k x)).symm

/-- The row words from the loaded rows, in the first loop over points. -/
theorem q_of_loads2 (yb : S128x128.Idx → F .f32) (k : Fin k0_t2_loop.trips) :
    k0_pay5 (k0_pay1 ((Memref.whole cc0_scratch1 : Memref sig .scVector .vmem S128x128 .f32).view.readAt (Elt F)
        (Rect.unit (s := S128x128) (k0_off7 k) S1x16.size (k0_off7_inb k)).toLoadRect yb))
      (k0_pay2 ((Memref.whole cc0_scratch1 : Memref sig .scVector .vmem S128x128 .f32).view.readAt (Elt F)
        (Rect.unit (s := S128x128) (k0_off6 k) S1x16.size (k0_off6_inb k)).toLoadRect yb))
      (Scalar.ofBits .f32 0x43800000#32) = qW yb k.val := by
  unfold k0_pay5 k0_pay1 k0_pay2
  dsimp only
  rw [load_row1 yb _ (off6_eq k), load_row1 yb _ (off7_eq k)]
  rfl
theorem l_of_loads2 (yb : S128x128.Idx → F .f32) (k : Fin k0_t2_loop.trips) :
    k0_pay6 (k0_pay2 ((Memref.whole cc0_scratch1 : Memref sig .scVector .vmem S128x128 .f32).view.readAt (Elt F)
        (Rect.unit (s := S128x128) (k0_off6 k) S1x16.size (k0_off6_inb k)).toLoadRect yb)) = lW yb k.val := by
  unfold k0_pay6 k0_pay2
  dsimp only
  rw [load_row1 yb _ (off6_eq k)]
  rfl
theorem q_of_loads3 (yb : S128x128.Idx → F .f32) (k : Fin k0_t3_loop.trips) :
    k0_pay10 (k0_pay3 ((Memref.whole cc0_scratch2 : Memref sig .scVector .vmem S128x128 .f32).view.readAt (Elt F)
        (Rect.unit (s := S128x128) (k0_off11 k) S1x16.size (k0_off11_inb k)).toLoadRect yb))
      (k0_pay4 ((Memref.whole cc0_scratch2 : Memref sig .scVector .vmem S128x128 .f32).view.readAt (Elt F)
        (Rect.unit (s := S128x128) (k0_off10 k) S1x16.size (k0_off10_inb k)).toLoadRect yb))
      (Scalar.ofBits .f32 0x43800000#32) = qW yb k.val := by
  unfold k0_pay10 k0_pay3 k0_pay4
  dsimp only
  rw [load_row2 yb _ (off10_eq k), load_row2 yb _ (off11_eq k)]
  rfl
theorem l_of_loads3 (yb : S128x128.Idx → F .f32) (k : Fin k0_t3_loop.trips) :
    k0_pay11 (k0_pay4 ((Memref.whole cc0_scratch2 : Memref sig .scVector .vmem S128x128 .f32).view.readAt (Elt F)
        (Rect.unit (s := S128x128) (k0_off10 k) S1x16.size (k0_off10_inb k)).toLoadRect yb)) = lW yb k.val := by
  unfold k0_pay11 k0_pay4
  dsimp only
  rw [load_row2 yb _ (off10_eq k)]
  rfl

/-! ## One sample's block of each input, and a tile's sums -/

/-- Sample `n`'s block of the map's array. -/
def dB (D : S128x512x128.Idx → F .f32) (n : ℕ) : S512x128.Idx → F .f32 :=
  fun j => D (ix3 (⟨n % 128, Nat.mod_lt _ (by decide)⟩ : Fin 128) (j 0) (j 1))
/-- Sample `n`'s block of the coordinates' array. -/
def yB (Y : S128x128x128.Idx → F .f32) (n : ℕ) : S128x128.Idx → F .f32 :=
  fun j => Y (ix3 (⟨n % 128, Nat.mod_lt _ (by decide)⟩ : Fin 128) (j 0) (j 1))

/-- The two sums after `e` samples, from sample `b` on. -/
def sums (D : S128x512x128.Idx → F .f32) (Y : S128x128x128.Idx → F .f32) (b : ℕ) : ℕ → FVec F S16 .f32 × FVec F S16 .f32
  | 0 => (k0_pay9, k0_pay9)
  | e + 1 => runV (dB D (b + e)) (yB Y (b + e)) (sums D Y b e) 512

/-- The row of the result that tile `w` writes. -/
def outRow (D : S128x512x128.Idx → F .f32) (Y : S128x128x128.Idx → F .f32) (w : ℕ) : FVec F S16 .f32 :=
  k0_pay14 (sums D Y (4 * w) 4).1 (sums D Y (4 * w) 4).2

/-- The result's array: row `w` is tile `w`'s. -/
def outV (D : S128x512x128.Idx → F .f32) (Y : S128x128x128.Idx → F .f32) : S32x16.Idx → F .f32 :=
  fun j => outRow D Y (j 0).val (ix1 (j 1))

/-- A sample's block of the coordinates is in the map when the whole array is. -/
theorem inMap_yB {Y : S128x128x128.Idx → F .f32} (h : ∀ j, (wordOf (Y j)).toNat < 256) (n : ℕ) : InMap (yB Y n) := fun _ => h _

end Cert.Proof.Trip

end
-- ==== Proof.Setup.lean ====
/-
  The program as the launch theorem sees it: the configuration, the resource algebra, the buffers of device `d` and a
  tile's own buffers and semaphore cells, the row of the result a tile writes, and two rules used throughout the tile's
  body: a transfer issued from a share of a whole array, and its wait.
-/
module

public import proofs.«01_k».proof.Defs
public import proofs.«01_k».proof.Proof.Trip
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Tile

open Cert.KernelIdeal Cert.KernelIdeal.Gen Cert.Proof.Trip

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev a0Loc (d : Dev nD) : Loc nD τ sig := (SparseCore.T d).loc main_arg0
abbrev a1Loc (d : Dev nD) : Loc nD τ sig := (SparseCore.T d).loc main_arg1
abbrev yLoc (d : Dev nD) : Loc nD τ sig := (SparseCore.T d).loc main_v2
abbrev dLoc (d : Dev nD) : Loc nD τ sig := (SparseCore.T d).loc main_v5
abbrev oLoc (d : Dev nD) : Loc nD τ sig := (SparseCore.T d).loc main_v6

local notation "yV" => (Memref.whole Cert.KernelIdeal.main_v2_scv : Memref Cert.KernelIdeal.sig Kind.scVector Space.hbm Cert.KernelIdeal.S128x128x128 EltTy.f32)
local notation "dV" => (Memref.whole Cert.KernelIdeal.main_v5_scv : Memref Cert.KernelIdeal.sig Kind.scVector Space.hbm Cert.KernelIdeal.S128x512x128 EltTy.f32)
local notation "oV" => (Memref.whole Cert.KernelIdeal.main_v6_scv : Memref Cert.KernelIdeal.sig Kind.scVector Space.hbm Cert.KernelIdeal.S32x16 EltTy.f32)
local notation "sD" => (Memref.whole Cert.KernelIdeal.cc0_scratch0 : Memref Cert.KernelIdeal.sig Kind.scVector Space.vmem Cert.KernelIdeal.S512x128 EltTy.f32)
local notation "sA" => (Memref.whole Cert.KernelIdeal.cc0_scratch1 : Memref Cert.KernelIdeal.sig Kind.scVector Space.vmem Cert.KernelIdeal.S128x128 EltTy.f32)
local notation "sB" => (Memref.whole Cert.KernelIdeal.cc0_scratch2 : Memref Cert.KernelIdeal.sig Kind.scVector Space.vmem Cert.KernelIdeal.S128x128 EltTy.f32)
local notation "sO" => (Memref.whole Cert.KernelIdeal.cc0_scratch3 : Memref Cert.KernelIdeal.sig Kind.scVector Space.vmem Cert.KernelIdeal.S16 EltTy.f32)

/-! ## The tiles, and the result's rows -/

abbrev cV (L : grid0.Coords) : Fin τ.nSC := (L 0).castLE hcore0
abbrev jV (L : grid0.Coords) : Fin τ.nSub := (L 1).castLE hsub0
/-- The thread of the tile at `L` of device `d`. -/
abbrev thr (d : Dev nD) (L : grid0.Coords) : Thread nD τ := V d (cV L) (jV L)

/-- Tile `s` of SparseCore `c` writes row `2 s + c` of the result. -/
def wid (c : Fin 2) (s : Fin 16) : Fin 32 := ⟨2 * s.val + c.val, by have := c.isLt; have := s.isLt; omega⟩
abbrev widL (L : grid0.Coords) : Fin 32 := wid (L 0) (L 1)

theorem odiv : 32 ∣ S32x16.size 0 := ⟨1, rfl⟩
abbrev orow (w : Fin 32) : Rect S32x16 := Rect.part (s := S32x16) (a₀ := 0) odiv w
abbrev oSet (w : Fin 32) : Finset S32x16.Idx := ((oV).view.slice (orow w)).set

abbrev orowK (L : grid0.Coords) : Rect S32x16 := Rect.unit (s := S32x16) (k0_off13 L) S1x16.size (k0_off13_inb L)
abbrev oRowK (L : grid0.Coords) : Memref sig .scVector .hbm S16 .f32 := ((oV).slice (orowK L) (fun _ => rfl)).squeeze S16 squeezes_S1x16_S16

theorem orowK_eq (L : grid0.Coords) : orowK L = orow (widL L) := by
  unfold orowK orow Rect.part Rect.block
  congr 1 <;> funext a
  · rw [k0_off13_eq]
    match a with
    | 0 => simp [Shape.partIx, Shape.partSize, widL, wid]
    | 1 => simp [Shape.partIx, Shape.partSize]
  · match a with
    | 0 => simp [Shape.partSize]
    | 1 => simp [Shape.partSize]

theorem set_oRowK (L : grid0.Coords) : (oRowK L).view.set = oSet (widL L) := by
  show (((oV).view.slice (orowK L)).reshape S16 squeezes_S1x16_S16.numel_eq).set = ((oV).view.slice (orow (widL L))).set
  rw [View.set_reshape]
  exact orowK_eq L ▸ rfl

/-! ## A tile's own cells and buffers -/

abbrev cell0 (d : Dev nD) (c : Fin τ.nSC) (i : Fin τ.nSub) : GSem nD τ sig := (V d c i, .dma cc0_scratch4.sem)
abbrev cell1 (d : Dev nD) (c : Fin τ.nSC) (i : Fin τ.nSub) : GSem nD τ sig := (V d c i, .dma cc0_scratch5.sem)
abbrev cell2 (d : Dev nD) (c : Fin τ.nSC) (i : Fin τ.nSub) : GSem nD τ sig := (V d c i, .dma cc0_scoped0.sem)

section
variable (d : Dev nD) (L : grid0.Coords)

/-- The three cells the tile's transfers signal are among its own. -/
theorem ownSems0_V :
    (ownSems0 (thr d L) : sProp 𝕄)
      = iprop(semVal (cell0 d (cV L) (jV L)) 0 ∗ semVal (cell1 d (cV L) (jV L)) 0 ∗ semVal (cell2 d (cV L) (jV L)) 0
          ∗ bigSep ((((ownCells (thr d L)).erase (cell0 d (cV L) (jV L))).erase (cell1 d (cV L) (jV L))).erase (cell2 d (cV L) (jV L))) fun g => semVal g 0) := by
  unfold SparseCore.Cfg.ownSems0
  rw [SparseCore.bigSep_erase' ((mem_ownCells (g := cell0 d (cV L) (jV L))).mpr ⟨rfl, by
      show (SemLoc.dma cc0_scratch4.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scratch5.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped0.sem : SemLoc sig).isScoped .scVector = true; decide⟩⟩⟩)]

/-- The tile's four scratch buffers are among its own. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have ne {a b : Ref sig .scVector} (h : a ≠ b) : (Proc.scVector (cV L) (jV L)).devRef a ≠ (Proc.scVector (cV L) (jV L)).devRef b :=
    fun e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ne (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨ne (show (cc0_scratch3 : Ref sig .scVector) ≠ cc0_scratch2 by decide),
      Finset.mem_erase.mpr ⟨ne (show (cc0_scratch3 : Ref sig .scVector) ≠ cc0_scratch1 by decide),
      Finset.mem_erase.mpr ⟨ne (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

end

/-! ## A transfer out of a share of a whole array -/

section Copy

variable [FloatOps F] (d : Dev nD) (L : grid0.Coords)

/-- A flight delivers, besides, whatever is put beside it. -/
theorem flight_frame {sm : SemLoc sig} {N : ℕ} {A B : sProp 𝕄} :
    iprop(Transfers.Flight countersEmb (thr d L) sm (default : HIx 1) N A ∗ B)
      ⊢ (Transfers.Flight countersEmb (thr d L) sm (default : HIx 1) N iprop(A ∗ B) : sProp 𝕄) := by
  unfold Transfers.Flight
  iintro ⟨⟨⟨%R, HR, %hcap, %hpeek⟩, Hcred⟩, HB⟩
  isplitl [HR HB]
  · iexists iprop(R ∗ B)
    isplitl [HR HB]; · isplitl [HR] <;> iassumption
    isplit
    · ipureintro
      intro Kt
      refine BIBase.Entails.trans ?_ (hcap Kt)
      iintro ⟨⟨HR, HB⟩, Hk⟩
      isplitl [HR]; · iexact HR
      iintro ⟨Hs, HA⟩
      iapply Hk
      isplitl [Hs]; · iexact Hs
      isplitl [HA] <;> iassumption
    · ipureintro
      intro Kt
      refine BIBase.Entails.trans ?_ (hpeek Kt)
      iintro ⟨⟨HR, HB⟩, Hk⟩
      isplitl [HR]; · iexact HR
      iintro HR
      iapply Hk
      isplitl [HR] <;> iassumption
  · iexact Hcred

/-- A transfer's issue, its source a part of an array held whole at a share: the flight delivers the destination
    written with what the source reads, and the whole share back. -/
theorem wp_issue {defs : Defs nD τ sig (Elt F) Λ₀} {α : Type} {Q : α → sProp 𝕄} {sp sp' : Space} {s : Shape} {e : EltTy} {src : Memref sig .scVector sp s e} {dst : Memref sig .scVector sp' s e}
    {sm : SemLoc sig} {hsrc : src.view.WordExact} {hdst : dst.view.WordExact} {hsem : DmaTarget.Typed (nD := nD) (p := (thr d L).2) sp sm (.here dst)}
    {k : PUnit → Prog (TpuEff nD τ sig (Elt F) Λ₀ (thr d L).2) α} {q : PosShare TreeShare} {fs : Buf (Elt F) (src.view.loc (thr d L))}
    {fd : Buf (Elt F) (dst.view.loc (thr d L))} {N : ℕ} (hN : dst.view.amount sm = N) (hN0 : 0 < N) :
    (iprop((src.view.loc (thr d L) ↦{q} fs) ∗ (dst.view.loc (thr d L) ↦{fullShare} fd) ∗ semVal (thr d L, sm) 0) : sProp 𝕄)
      ⊢ iprop((Transfers.Flight countersEmb (thr d L) sm (default : HIx 1) N
            iprop((dst.view.loc (thr d L) ↦{fullShare} (dst.view.write (Elt F) fd (src.view.read (Elt F) fs) Finset.univ))
              ∗ (src.view.loc (thr d L) ↦{q} fs))
          -∗ wp frame (wpE defs 𝒱₀ (thr d L) none) Set.univ (k ⟨⟩) Q)
        -∗ wp frame (wpE defs 𝒱₀ (thr d L) none) Set.univ (.op (.enqueueDma src (.here dst) sm hsrc hdst hsem) k) Q) := by
  have hback : iprop(((dst.view.loc (thr d L) ↦{fullShare} (dst.view.write (Elt F) fd (src.view.read (Elt F) fs) Finset.univ))
        ∗ (src.view.loc (thr d L) ↦[src.view.set]{q} fs)) ∗ (src.view.loc (thr d L) ↦[Finset.univ \ src.view.set]{q} fs))
      ⊢ (iprop((dst.view.loc (thr d L) ↦{fullShare} (dst.view.write (Elt F) fd (src.view.read (Elt F) fs) Finset.univ))
        ∗ (src.view.loc (thr d L) ↦{q} fs)) : sProp 𝕄) := by
    iintro ⟨⟨Hd, Hs⟩, Hr⟩
    isplitl [Hd]; · iexact Hd
    iapply (pointsTo_split_subset (q := q) (f := fs) (S := Finset.univ) (Finset.subset_univ src.view.set)).2
    isplitl [Hs] <;> iassumption
  iintro ⟨Hs, Hd, Hv⟩ Hk
  ihave Hs' := (pointsTo_split_subset (q := q) (f := fs) (S := Finset.univ) (Finset.subset_univ src.view.set)).1 $$ Hs
  icases Hs' with ⟨Hs, Hr⟩
  iapply (Transfers.wp_dmaLocal countersEmb 𝒱₀ (thr d L) none (via := ReadAs.same) (default : HIx 1) N hN hN0 (Finset.subset_univ _)) $$ [Hs Hd Hv]
  · isplitl [Hs]; · iexact Hs
    isplitl [Hd]; · iexact Hd
    iexact Hv
  iintro Hf
  iapply Hk
  iapply ((flight_frame (F := F) d L).trans (Transfers.Flight_mono countersEmb (thr d L) hback))
  isplitl [Hf]; · iexact Hf
  iexact Hr

end Copy

end Cert.Proof.Tile

end
-- ==== Proof.Tile.lean ====
/-
  A tile's body: the two loops over the points of a sample, the loop over the samples with one transfer of each input in
  flight, and the write of the tile's row of sums.
-/
module

public import proofs.«01_k».proof.Proof.Setup

@[expose] public section

noncomputable section

namespace Cert.Proof.Tile

open Cert.KernelIdeal Cert.KernelIdeal.Gen Cert.Proof.Trip

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "yV" => (Memref.whole Cert.KernelIdeal.main_v2_scv : Memref Cert.KernelIdeal.sig Kind.scVector Space.hbm Cert.KernelIdeal.S128x128x128 EltTy.f32)
local notation "dV" => (Memref.whole Cert.KernelIdeal.main_v5_scv : Memref Cert.KernelIdeal.sig Kind.scVector Space.hbm Cert.KernelIdeal.S128x512x128 EltTy.f32)
local notation "oV" => (Memref.whole Cert.KernelIdeal.main_v6_scv : Memref Cert.KernelIdeal.sig Kind.scVector Space.hbm Cert.KernelIdeal.S32x16 EltTy.f32)
local notation "sD" => (Memref.whole Cert.KernelIdeal.cc0_scratch0 : Memref Cert.KernelIdeal.sig Kind.scVector Space.vmem Cert.KernelIdeal.S512x128 EltTy.f32)
local notation "sA" => (Memref.whole Cert.KernelIdeal.cc0_scratch1 : Memref Cert.KernelIdeal.sig Kind.scVector Space.vmem Cert.KernelIdeal.S128x128 EltTy.f32)
local notation "sB" => (Memref.whole Cert.KernelIdeal.cc0_scratch2 : Memref Cert.KernelIdeal.sig Kind.scVector Space.vmem Cert.KernelIdeal.S128x128 EltTy.f32)
local notation "sO" => (Memref.whole Cert.KernelIdeal.cc0_scratch3 : Memref Cert.KernelIdeal.sig Kind.scVector Space.vmem Cert.KernelIdeal.S16 EltTy.f32)

/-! ## What a sample's transfer reads -/

/-- The slice of the map's array at row `n`, its unit axis dropped, reads sample `n`'s block. -/
theorem read_d (Dc : S128x512x128.Idx → F .f32) {off : Fin 3 → ℕ} (inb : ∀ a, off a + S1x512x128.size a ≤ S128x512x128.size a) {n : ℕ}
    (ho : off = ![n, 0, 0]) :
    (((dV).slice (Rect.unit (s := S128x512x128) off S1x512x128.size inb) (fun _ => rfl)).squeeze S512x128 squeezes_S1x512x128_S512x128).view.read (Elt F) Dc
      = dB Dc n := by
  subst ho
  funext j
  obtain ⟨x, y, rfl⟩ : ∃ (x : Fin 512) (y : Fin 128), j = ix2 x y := ⟨j 0, j 1, eq_ix2 j⟩
  have h0 : n + 1 ≤ 128 := inb 0
  have e := reshapeEquiv_ix2_1ab (squeezes_S1x512x128_S512x128.numel_eq) x y
  show Dc ((Rect.unit (s := S128x512x128) ![n, 0, 0] S1x512x128.size inb).idx (Shape.reshapeEquiv squeezes_S1x512x128_S512x128.numel_eq (ix2 x y))) = _
  rw [e]
  unfold dB
  congr 1
  funext a
  apply Fin.ext
  match a with
  | ⟨0, _⟩ => show n + 1 * 0 = n % 128; omega
  | ⟨1, _⟩ => show 0 + 1 * x.val = x.val; omega
  | ⟨2, _⟩ => show 0 + 1 * y.val = y.val; omega

/-- The slice of the coordinates' array at row `n`, its unit axis dropped, reads sample `n`'s block. -/
theorem read_y (Yc : S128x128x128.Idx → F .f32) {off : Fin 3 → ℕ} (inb : ∀ a, off a + S1x128x128.size a ≤ S128x128x128.size a) {n : ℕ}
    (ho : off = ![n, 0, 0]) :
    (((yV).slice (Rect.unit (s := S128x128x128) off S1x128x128.size inb) (fun _ => rfl)).squeeze S128x128 squeezes_S1x128x128_S128x128).view.read (Elt F) Yc
      = yB Yc n := by
  subst ho
  funext j
  obtain ⟨x, y, rfl⟩ : ∃ (x : Fin 128) (y : Fin 128), j = ix2 x y := ⟨j 0, j 1, eq_ix2 j⟩
  have h0 : n + 1 ≤ 128 := inb 0
  have e := reshapeEquiv_ix2_1ab (squeezes_S1x128x128_S128x128.numel_eq) x y
  show Yc ((Rect.unit (s := S128x128x128) ![n, 0, 0] S1x128x128.size inb).idx (Shape.reshapeEquiv squeezes_S1x128x128_S128x128.numel_eq (ix2 x y))) = _
  rw [e]
  unfold yB
  congr 1
  funext a
  apply Fin.ext
  match a with
  | ⟨0, _⟩ => show n + 1 * 0 = n % 128; omega
  | ⟨1, _⟩ => show 0 + 1 * x.val = x.val; omega
  | ⟨2, _⟩ => show 0 + 1 * y.val = y.val; omega

/-! ## One trip, from the words loaded -/

/-- The gather's side condition, of the words a trip computes. -/
theorem chk_of2 {Yv : S128x128.Idx → F .f32} (h : InMap Yv) {k : ℕ} {q l : IVec S16 32} (hq : q = qW Yv k) (hl : l = lW Yv k) : k0_chk1 q l := by
  subst hq hl; exact chk h k
theorem chk_of3 {Yv : S128x128.Idx → F .f32} (h : InMap Yv) {k : ℕ} {q l : IVec S16 32} (hq : q = qW Yv k) (hl : l = lW Yv k) : k0_chk2 q l := by
  subst hq hl; exact chk h k

/-- The trip's two sums, of the words a trip computes. -/
theorem step_of {f Dv : S512x128.Idx → F .f32} {Yv : S128x128.Idx → F .f32} (h : InMap Yv) {k : ℕ} {q l : IVec S16 32} (hf : f = Dv) (hq : q = qW Yv k) (hl : l = lW Yv k)
    (hc : ∀ a x, ((![q, l] : Fin 2 → IVec S16 32) a x).toNat < S512x128.size a) (a1 a2 : FVec F S16 .f32) :
    (k0_pay7 a1 (loadIdx (F := F) (e := .f32) f (![q, l] : Fin 2 → IVec S16 32) hc),
      k0_pay8 a2 (loadIdx (F := F) (e := .f32) f (![q, l] : Fin 2 → IVec S16 32) hc)) = stepV Dv Yv k (a1, a2) := by
  subst hf hq hl
  rw [loadIdx_got h k hc]
  rfl

section Body

variable (d : Dev nD) (L : grid0.Coords)

/-! ## The points of a sample -/

/-- One trip of the first loop over points: the two sums go on by the words gathered. -/
theorem trip2 {Dv : S512x128.Idx → F .f32} {Yv : S128x128.Idx → F .f32} (h : InMap Yv) (v2 c7 c1 : BitVec 32) (t1 : Fin k0_t1_loop.trips)
    (b12 b13 : FVec F S16 .f32) (k : Fin k0_t2_loop.trips) (a : FVec F S16 .f32 × FVec F S16 .f32) :
    (iprop(((sD).view.loc (thr d L) ↦{fullShare} Dv) ∗ ((sA).view.loc (thr d L) ↦{fullShare} Yv)) : sProp 𝕄)
      ⊢ wp frame (wpE (defs₀ (F := F)) 𝒱₀ (thr d L) none) Set.univ
          (k0_t2_body L yV (Memref.isWhole_whole _) dV (Memref.isWhole_whole _) oV (Memref.isWhole_whole _) sD (Memref.isWhole_whole _)
            sA (Memref.isWhole_whole _) sB (Memref.isWhole_whole _) sO (Memref.isWhole_whole _) cc0_scratch4 cc0_scratch5 cc0_scoped0
            v2 c7 c1 t1 b12 b13 k a)
          fun r => iprop(⌜r = stepV Dv Yv k.val a⌝ ∗ ((sD).view.loc (thr d L) ↦{fullShare} Dv) ∗ ((sA).view.loc (thr d L) ↦{fullShare} Yv)) := by
  obtain ⟨a1, a2⟩ := a
  unfold k0_t2_body
  simp only [k0_part1_eq_skeleton]; unfold k0_part1_skel
  simp only [Prog.lift, Prog.bind_op, Prog.bind_ret, Prog.pure_eq_ret]
  iintro ⟨Hd, Hy⟩
  iapply (wp_load 𝒱₀ (thr d L) none Set.univ (m := sA) (S := Finset.univ) (Finset.subset_univ _)) $$ Hy; iintro Hy
  iapply (wp_load 𝒱₀ (thr d L) none Set.univ (m := sA) (S := Finset.univ) (Finset.subset_univ _)) $$ Hy; iintro Hy
  rw [wp_assume_of _ _ _ _ (chk_of2 h (q_of_loads2 Yv k) (l_of_loads2 Yv k))]
  iapply (SparseCore.wp_vectorLoadIdx 𝒱₀ (thr d L) none Set.univ (base := sD) (S := Finset.univ) (q := fullShare) (Finset.subset_univ _)) $$ Hd; iintro Hd
  rw [wp_ret]; imodintro
  isplitr
  · ipureintro
    exact step_of h (Memref.read_access_whole _ _ _) (q_of_loads2 Yv k) (l_of_loads2 Yv k) _ a1 a2
  isplitl [Hd]; · iexact Hd
  iexact Hy

/-- One trip of the second loop over points: the two sums go on by the words gathered. -/
theorem trip3 {Dv : S512x128.Idx → F .f32} {Yv : S128x128.Idx → F .f32} (h : InMap Yv) (k : Fin k0_t3_loop.trips) (a : FVec F S16 .f32 × FVec F S16 .f32) :
    (iprop(((sD).view.loc (thr d L) ↦{fullShare} Dv) ∗ ((sB).view.loc (thr d L) ↦{fullShare} Yv)) : sProp 𝕄)
      ⊢ wp frame (wpE (defs₀ (F := F)) 𝒱₀ (thr d L) none) Set.univ
          (k0_t3_body L yV (Memref.isWhole_whole _) dV (Memref.isWhole_whole _) oV (Memref.isWhole_whole _) sD (Memref.isWhole_whole _)
            sA (Memref.isWhole_whole _) sB (Memref.isWhole_whole _) sO (Memref.isWhole_whole _) cc0_scratch4 cc0_scratch5 cc0_scoped0 k a)
          fun r => iprop(⌜r = stepV Dv Yv k.val a⌝ ∗ ((sD).view.loc (thr d L) ↦{fullShare} Dv) ∗ ((sB).view.loc (thr d L) ↦{fullShare} Yv)) := by
  obtain ⟨a1, a2⟩ := a
  unfold k0_t3_body
  simp only [k0_part2_eq_skeleton]; unfold k0_part2_skel
  simp only [Prog.lift, Prog.bind_op, Prog.bind_ret, Prog.pure_eq_ret]
  iintro ⟨Hd, Hy⟩
  iapply (wp_load 𝒱₀ (thr d L) none Set.univ (m := sB) (S := Finset.univ) (Finset.subset_univ _)) $$ Hy; iintro Hy
  iapply (wp_load 𝒱₀ (thr d L) none Set.univ (m := sB) (S := Finset.univ) (Finset.subset_univ _)) $$ Hy; iintro Hy
  rw [wp_assume_of _ _ _ _ (chk_of3 h (q_of_loads3 Yv k) (l_of_loads3 Yv k))]
  iapply (SparseCore.wp_vectorLoadIdx 𝒱₀ (thr d L) none Set.univ (base := sD) (S := Finset.univ) (q := fullShare) (Finset.subset_univ _)) $$ Hd; iintro Hd
  rw [wp_ret]; imodintro
  isplitr
  · ipureintro
    exact step_of h (Memref.read_access_whole _ _ _) (q_of_loads3 Yv k) (l_of_loads3 Yv k) _ a1 a2
  isplitl [Hd]; · iexact Hd
  iexact Hy

/-- The first loop over points, at the head of a program: the sums run over a sample's points. -/
theorem loop2 {Dv : S512x128.Idx → F .f32} {Yv : S128x128.Idx → F .f32} (h : InMap Yv) (v2 c7 c1 : BitVec 32) (t1 : Fin k0_t1_loop.trips)
    (b12 b13 : FVec F S16 .f32) (a : FVec F S16 .f32 × FVec F S16 .f32) {β : Type}
    {kk : FVec F S16 .f32 × FVec F S16 .f32 → Prog (TpuEff nD τ sig (Elt F) Λ₀ (thr d L).2) β} {Q : β → sProp 𝕄} :
    (iprop(((sD).view.loc (thr d L) ↦{fullShare} Dv) ∗ ((sA).view.loc (thr d L) ↦{fullShare} Yv)) : sProp 𝕄)
      ⊢ iprop((((sD).view.loc (thr d L) ↦{fullShare} Dv) ∗ ((sA).view.loc (thr d L) ↦{fullShare} Yv)
          -∗ wp frame (wpE (defs₀ (F := F)) 𝒱₀ (thr d L) none) Set.univ (kk (runV Dv Yv a 512)) Q)
        -∗ wp frame (wpE (defs₀ (F := F)) 𝒱₀ (thr d L) none) Set.univ
          (Scf.Loop.for k0_t2_loop k0_t2_ok a (k0_t2_body L yV (Memref.isWhole_whole _) dV (Memref.isWhole_whole _) oV (Memref.isWhole_whole _) sD (Memref.isWhole_whole _)
            sA (Memref.isWhole_whole _) sB (Memref.isWhole_whole _) sO (Memref.isWhole_whole _) cc0_scratch4 cc0_scratch5 cc0_scoped0
            v2 c7 c1 t1 b12 b13) >>= kk) Q) := by
  iintro ⟨Hd, Hy⟩ Hk
  iapply (Scf.wp_for_bind (I := fun k r => iprop(⌜r = runV Dv Yv a k⌝ ∗ ((sD).view.loc (thr d L) ↦{fullShare} Dv) ∗ ((sA).view.loc (thr d L) ↦{fullShare} Yv)))
    (hbody := ?hb)) $$ [Hd Hy]
  case hb =>
    intro k r
    iintro ⟨%hr, Hd, Hy⟩
    subst hr
    iapply (BIBase.Entails.trans (trip2 d L h v2 c7 c1 t1 b12 b13 k _) (wp_mono frame (wpE (defs₀ (F := F)) 𝒱₀ (thr d L) none) Set.univ fun r' =>
      sep_mono_left (BI.pure_mono fun e => e)))
    isplitl [Hd] <;> iassumption
  · isplitr; · ipureintro; rfl
    isplitl [Hd] <;> iassumption
  iintro %acc ⟨%hr, Hd, Hy⟩
  subst hr
  iapply Hk
  isplitl [Hd] <;> iassumption

/-- The second loop over points, at the head of a program: the sums run over a sample's points. -/
theorem loop3 {Dv : S512x128.Idx → F .f32} {Yv : S128x128.Idx → F .f32} (h : InMap Yv) (a : FVec F S16 .f32 × FVec F S16 .f32) {β : Type}
    {kk : FVec F S16 .f32 × FVec F S16 .f32 → Prog (TpuEff nD τ sig (Elt F) Λ₀ (thr d L).2) β} {Q : β → sProp 𝕄} :
    (iprop(((sD).view.loc (thr d L) ↦{fullShare} Dv) ∗ ((sB).view.loc (thr d L) ↦{fullShare} Yv)) : sProp 𝕄)
      ⊢ iprop((((sD).view.loc (thr d L) ↦{fullShare} Dv) ∗ ((sB).view.loc (thr d L) ↦{fullShare} Yv)
          -∗ wp frame (wpE (defs₀ (F := F)) 𝒱₀ (thr d L) none) Set.univ (kk (runV Dv Yv a 512)) Q)
        -∗ wp frame (wpE (defs₀ (F := F)) 𝒱₀ (thr d L) none) Set.univ
          (Scf.Loop.for k0_t3_loop k0_t3_ok a (k0_t3_body L yV (Memref.isWhole_whole _) dV (Memref.isWhole_whole _) oV (Memref.isWhole_whole _) sD (Memref.isWhole_whole _)
            sA (Memref.isWhole_whole _) sB (Memref.isWhole_whole _) sO (Memref.isWhole_whole _) cc0_scratch4 cc0_scratch5 cc0_scoped0) >>= kk) Q) := by
  iintro ⟨Hd, Hy⟩ Hk
  iapply (Scf.wp_for_bind (I := fun k r => iprop(⌜r = runV Dv Yv a k⌝ ∗ ((sD).view.loc (thr d L) ↦{fullShare} Dv) ∗ ((sB).view.loc (thr d L) ↦{fullShare} Yv)))
    (hbody := ?hb)) $$ [Hd Hy]
  case hb =>
    intro k r
    iintro ⟨%hr, Hd, Hy⟩
    subst hr
    iapply (BIBase.Entails.trans (trip3 d L h k _) (wp_mono frame (wpE (defs₀ (F := F)) 𝒱₀ (thr d L) none) Set.univ fun r' =>
      sep_mono_left (BI.pure_mono fun e => e)))
    isplitl [Hd] <;> iassumption
  · isplitr; · ipureintro; rfl
    isplitl [Hd] <;> iassumption
  iintro %acc ⟨%hr, Hd, Hy⟩
  subst hr
  iapply Hk
  isplitl [Hd] <;> iassumption

/-! ## The transfers in flight -/

/-- What the tile owes, with only waits of its own recorded since `W`. -/
abbrev Owing (O : CellTallies nD τ sig (HIx 1)) (W : Waits sig (HIx 1)) : sProp 𝕄 :=
  iprop(∃ W', ⌜∀ p ∈ W', p ∈ W ∨ p.2 = none⌝ ∗ owes (thr d L) O W')

abbrev ND : ℕ := (sD).view.dmaCredit
abbrev NY : ℕ := (sA).view.dmaCredit
abbrev NZ : ℕ := (sB).view.dmaCredit

variable (q : PosShare TreeShare) (Dc : S128x512x128.Idx → F .f32) (Yc : S128x128x128.Idx → F .f32)

/-- Sample `n`'s block of the map in flight into its buffer. -/
abbrev FlD (n : ℕ) : sProp 𝕄 :=
  Transfers.Flight countersEmb (thr d L) (.dma cc0_scratch4.sem) (default : HIx 1) ND
    iprop(((sD).view.loc (thr d L) ↦{fullShare} dB Dc n) ∗ ((dV).view.loc (thr d L) ↦{q} Dc))
/-- Sample `n`'s block of the coordinates in flight into the first buffer for them. -/
abbrev FlA (n : ℕ) : sProp 𝕄 :=
  Transfers.Flight countersEmb (thr d L) (.dma cc0_scratch5.sem) (default : HIx 1) NY
    iprop(((sA).view.loc (thr d L) ↦{fullShare} yB Yc n) ∗ ((yV).view.loc (thr d L) ↦{q} Yc))
/-- Sample `n`'s block of the coordinates in flight into the second buffer for them. -/
abbrev FlB (n : ℕ) : sProp 𝕄 :=
  Transfers.Flight countersEmb (thr d L) (.dma cc0_scratch5.sem) (default : HIx 1) NZ
    iprop(((sB).view.loc (thr d L) ↦{fullShare} yB Yc n) ∗ ((yV).view.loc (thr d L) ↦{q} Yc))

/-- The issue of sample `n`'s block of the map. -/
theorem issueD {off : Fin 3 → ℕ} (inb : ∀ a, off a + S1x512x128.size a ≤ S128x512x128.size a) {n : ℕ} (ho : off = ![n, 0, 0])
    {hsrc : (((dV).slice (Rect.unit (s := S128x512x128) off S1x512x128.size inb) (fun _ => rfl)).squeeze S512x128 squeezes_S1x512x128_S512x128).view.WordExact}
    {hdst : (sD).view.WordExact} {hsem : DmaTarget.Typed (nD := nD) (p := (thr d L).2) Space.hbm (.dma cc0_scratch4.sem) (.here sD)}
    {fd : S512x128.Idx → F .f32} {α : Type} {Q : α → sProp 𝕄} {k : PUnit → Prog (TpuEff nD τ sig (Elt F) Λ₀ (thr d L).2) α} :
    (iprop(((dV).view.loc (thr d L) ↦{q} Dc) ∗ ((sD).view.loc (thr d L) ↦{fullShare} fd) ∗ semVal (thr d L, .dma cc0_scratch4.sem) 0) : sProp 𝕄)
      ⊢ iprop((FlD d L q Dc n -∗ wp frame (wpE (defs₀ (F := F)) 𝒱₀ (thr d L) none) Set.univ (k ⟨⟩) Q)
        -∗ wp frame (wpE (defs₀ (F := F)) 𝒱₀ (thr d L) none) Set.univ
          (.op (.enqueueDma (((dV).slice (Rect.unit (s := S128x512x128) off S1x512x128.size inb) (fun _ => rfl)).squeeze S512x128 squeezes_S1x512x128_S512x128)
            (.here sD) (.dma cc0_scratch4.sem) hsrc hdst hsem) k) Q) := by
  have hv : (sD).view.write (Elt F) fd ((((dV).slice (Rect.unit (s := S128x512x128) off S1x512x128.size inb) (fun _ => rfl)).squeeze S512x128
      squeezes_S1x512x128_S512x128).view.read (Elt F) Dc) Finset.univ = dB Dc n :=
    (View.write_whole_univ _ _ _).trans (read_d Dc inb ho)
  iintro H Hk
  iapply (wp_issue (F := F) d L (defs := defs₀ (F := F)) (src := (((dV).slice (Rect.unit (s := S128x512x128) off S1x512x128.size inb) (fun _ => rfl)).squeeze S512x128 squeezes_S1x512x128_S512x128))
    (dst := sD) (N := ND) rfl (View.dmaCredit_pos _ (by decide))) $$ H
  iintro Hf
  iapply Hk
  iapply (Transfers.Flight_mono countersEmb (thr d L) (sep_mono_left (BIBase.Entails.of_eq (congrArg (fun g => ((sD).view.loc (thr d L) ↦{fullShare} g : sProp 𝕄)) hv)))) $$ Hf

/-- The issue of sample `n`'s block of the coordinates, into the first buffer for them. -/
theorem issueA {off : Fin 3 → ℕ} (inb : ∀ a, off a + S1x128x128.size a ≤ S128x128x128.size a) {n : ℕ} (ho : off = ![n, 0, 0])
    {hsrc : (((yV).slice (Rect.unit (s := S128x128x128) off S1x128x128.size inb) (fun _ => rfl)).squeeze S128x128 squeezes_S1x128x128_S128x128).view.WordExact}
    {hdst : (sA).view.WordExact} {hsem : DmaTarget.Typed (nD := nD) (p := (thr d L).2) Space.hbm (.dma cc0_scratch5.sem) (.here sA)}
    {fd : S128x128.Idx → F .f32} {α : Type} {Q : α → sProp 𝕄} {k : PUnit → Prog (TpuEff nD τ sig (Elt F) Λ₀ (thr d L).2) α} :
    (iprop(((yV).view.loc (thr d L) ↦{q} Yc) ∗ ((sA).view.loc (thr d L) ↦{fullShare} fd) ∗ semVal (thr d L, .dma cc0_scratch5.sem) 0) : sProp 𝕄)
      ⊢ iprop((FlA d L q Yc n -∗ wp frame (wpE (defs₀ (F := F)) 𝒱₀ (thr d L) none) Set.univ (k ⟨⟩) Q)
        -∗ wp frame (wpE (defs₀ (F := F)) 𝒱₀ (thr d L) none) Set.univ
          (.op (.enqueueDma (((yV).slice (Rect.unit (s := S128x128x128) off S1x128x128.size inb) (fun _ => rfl)).squeeze S128x128 squeezes_S1x128x128_S128x128)
            (.here sA) (.dma cc0_scratch5.sem) hsrc hdst hsem) k) Q) := by
  have hv : (sA).view.write (Elt F) fd ((((yV).slice (Rect.unit (s := S128x128x128) off S1x128x128.size inb) (fun _ => rfl)).squeeze S128x128
      squeezes_S1x128x128_S128x128).view.read (Elt F) Yc) Finset.univ = yB Yc n :=
    (View.write_whole_univ _ _ _).trans (read_y Yc inb ho)
  iintro H Hk
  iapply (wp_issue (F := F) d L (defs := defs₀ (F := F)) (src := (((yV).slice (Rect.unit (s := S128x128x128) off S1x128x128.size inb) (fun _ => rfl)).squeeze S128x128 squeezes_S1x128x128_S128x128))
    (dst := sA) (N := NY) rfl (View.dmaCredit_pos _ (by decide))) $$ H
  iintro Hf
  iapply Hk
  iapply (Transfers.Flight_mono countersEmb (thr d L) (sep_mono_left (BIBase.Entails.of_eq (congrArg (fun g => ((sA).view.loc (thr d L) ↦{fullShare} g : sProp 𝕄)) hv)))) $$ Hf

/-- The issue of sample `n`'s block of the coordinates, into the second buffer for them. -/
theorem issueB {off : Fin 3 → ℕ} (inb : ∀ a, off a + S1x128x128.size a ≤ S128x128x128.size a) {n : ℕ} (ho : off = ![n, 0, 0])
    {hsrc : (((yV).slice (Rect.unit (s := S128x128x128) off S1x128x128.size inb) (fun _ => rfl)).squeeze S128x128 squeezes_S1x128x128_S128x128).view.WordExact}
    {hdst : (sB).view.WordExact} {hsem : DmaTarget.Typed (nD := nD) (p := (thr d L).2) Space.hbm (.dma cc0_scratch5.sem) (.here sB)}
    {fd : S128x128.Idx → F .f32} {α : Type} {Q : α → sProp 𝕄} {k : PUnit → Prog (TpuEff nD τ sig (Elt F) Λ₀ (thr d L).2) α} :
    (iprop(((yV).view.loc (thr d L) ↦{q} Yc) ∗ ((sB).view.loc (thr d L) ↦{fullShare} fd) ∗ semVal (thr d L, .dma cc0_scratch5.sem) 0) : sProp 𝕄)
      ⊢ iprop((FlB d L q Yc n -∗ wp frame (wpE (defs₀ (F := F)) 𝒱₀ (thr d L) none) Set.univ (k ⟨⟩) Q)
        -∗ wp frame (wpE (defs₀ (F := F)) 𝒱₀ (thr d L) none) Set.univ
          (.op (.enqueueDma (((yV).slice (Rect.unit (s := S128x128x128) off S1x128x128.size inb) (fun _ => rfl)).squeeze S128x128 squeezes_S1x128x128_S128x128)
            (.here sB) (.dma cc0_scratch5.sem) hsrc hdst hsem) k) Q) := by
  have hv : (sB).view.write (Elt F) fd ((((yV).slice (Rect.unit (s := S128x128x128) off S1x128x128.size inb) (fun _ => rfl)).squeeze S128x128
      squeezes_S1x128x128_S128x128).view.read (Elt F) Yc) Finset.univ = yB Yc n :=
    (View.write_whole_univ _ _ _).trans (read_y Yc inb ho)
  iintro H Hk
  iapply (wp_issue (F := F) d L (defs := defs₀ (F := F)) (src := (((yV).slice (Rect.unit (s := S128x128x128) off S1x128x128.size inb) (fun _ => rfl)).squeeze S128x128 squeezes_S1x128x128_S128x128))
    (dst := sB) (N := NZ) rfl (View.dmaCredit_pos _ (by decide))) $$ H
  iintro Hf
  iapply Hk
  iapply (Transfers.Flight_mono countersEmb (thr d L) (sep_mono_left (BIBase.Entails.of_eq (congrArg (fun g => ((sB).view.loc (thr d L) ↦{fullShare} g : sProp 𝕄)) hv)))) $$ Hf

/-- A wait for the one transfer in flight on a cell. -/
theorem wp_wait {O : CellTallies nD τ sig (HIx 1)} {W : Waits sig (HIx 1)} (hO : ∀ g, O g none = 0) {sem : DmaSem sig} {sp sp' : Space} {s s' : Shape} {e e' : EltTy}
    {srcw : Memref sig .scVector sp' s' e'} {dstw : Memref sig .scVector sp s e} {hsrc : srcw.view.WordExact} {hdst : dstw.view.WordExact}
    {N : ℕ} (hN : dstw.view.dmaCredit = N) {A : sProp 𝕄} {α : Type} {Q : α → sProp 𝕄} {k : PUnit → Prog (TpuEff nD τ sig (Elt F) Λ₀ (thr d L).2) α} :
    (iprop(levAts (K (F := F)).L (K (F := F)).lev ∗ Transfers.Flight countersEmb (thr d L) (.dma sem) (default : HIx 1) N A ∗ Owing d L O W) : sProp 𝕄)
      ⊢ iprop((A ∗ semVal (thr d L, .dma sem) 0 ∗ Owing d L O W -∗ wp frame (wpE (defs₀ (F := F)) 𝒱₀ (thr d L) none) Set.univ (k ⟨⟩) Q)
        -∗ wp frame (wpE (defs₀ (F := F)) 𝒱₀ (thr d L) none) Set.univ (.op (.waitDma2 sem srcw dstw hsrc hdst) k) Q) := by
  iintro ⟨#Hlv, Hf, %W', %hW', HO⟩ Hk
  iapply (Transfers.wp_waitLocalO countersEmb 𝒱₀ (thr d L) none (default : HIx 1) hN) $$ [Hf HO]
  · isplitl [Hf]; · iexact Hf
    isplitl [HO]; · iexact HO
    iapply ((K (F := F)).mayWait_none (SemLoc.dma sem) hO); iexact Hlv
  iintro ⟨HA, Hs, HO⟩
  iapply Hk
  isplitl [HA]; · iexact HA
  isplitl [Hs]; · iexact Hs
  iexists _; isplitr
  swap; · iexact HO
  ipureintro; intro p hp
  rcases Finset.mem_insert.mp hp with hp | hp; · exact .inr (hp ▸ rfl)
  exact hW' p hp

/-! ## Two samples -/

theorem cond1_iff : ∀ j : Fin k0_t1_loop.trips, k0_cond1 j = 1#1 ↔ j.val < 1 := by decide +kernel
theorem cond2_iff : ∀ j : Fin k0_t1_loop.trips, k0_cond2 j = 1#1 ↔ j.val < 1 := by decide +kernel

/-- The first sample a tile takes at trip `j`. -/
abbrev smp (j : ℕ) : ℕ := 4 * (widL L).val + 2 * j
theorem smp_eq (j : ℕ) : 8 * (L 1).val + 4 * (L 0).val + 2 * j = smp L j := by
  show _ = 4 * (2 * (L 1).val + (L 0).val) + 2 * j
  omega

variable {O : CellTallies nD τ sig (HIx 1)} {W : Waits sig (HIx 1)}

/-- The first half of a trip: the sample's blocks awaited, the next sample's coordinates issued, the sums run over the
    sample's points, and the next sample's map issued. -/
theorem half1 (hO : ∀ g, O g none = 0) (hin : ∀ n, InMap (yB Yc n)) (v2 c7 c1 : BitVec 32) (j : Fin k0_t1_loop.trips) (a1 a2 : FVec F S16 .f32) :
    (iprop(levAts (K (F := F)).L (K (F := F)).lev ∗ Owing d L O W ∗ FlD d L q Dc (smp L j.val) ∗ FlA d L q Yc (smp L j.val)
        ∗ (∃ f, (sB).view.loc (thr d L) ↦{fullShare} f)) : sProp 𝕄)
      ⊢ wp frame (wpE (defs₀ (F := F)) 𝒱₀ (thr d L) none) Set.univ
          (k0_part3 L yV (Memref.isWhole_whole _) dV (Memref.isWhole_whole _) oV (Memref.isWhole_whole _) sD (Memref.isWhole_whole _)
            sA (Memref.isWhole_whole _) sB (Memref.isWhole_whole _) sO (Memref.isWhole_whole _) cc0_scratch4 cc0_scratch5 cc0_scoped0 v2 c7 c1 j a1 a2)
          fun r => iprop(⌜(r.2.2.1, r.2.2.2) = runV (dB Dc (smp L j.val)) (yB Yc (smp L j.val)) (a1, a2) 512⌝ ∗ Owing d L O W
            ∗ FlD d L q Dc (smp L j.val + 1) ∗ FlB d L q Yc (smp L j.val + 1) ∗ (∃ f, (sA).view.loc (thr d L) ↦{fullShare} f)) := by
  simp only [k0_part3_eq_skeleton]; unfold k0_part3_skel
  simp only [Prog.lift, Prog.bind_op, Prog.bind_ret, Prog.pure_eq_ret]
  iintro ⟨#Hlv, HO, HfD, HfA, %fb, Hb⟩
  iapply (wp_wait d L hO (N := ND) rfl) $$ [HfD HO]
  · isplitr; · iexact Hlv
    isplitl [HfD] <;> iassumption
  iintro ⟨⟨Hd, HD⟩, Hs4, HO⟩
  iapply (wp_wait d L hO (N := NY) rfl) $$ [HfA HO]
  · isplitr; · iexact Hlv
    isplitl [HfA] <;> iassumption
  iintro ⟨⟨Ha, HY⟩, Hs5, HO⟩
  iapply (issueB d L q Yc _ (n := smp L j.val + 1) (by rw [k0_off5_eq, smp_eq])) $$ [HY Hb Hs5]
  · isplitl [HY]; · iexact HY
    isplitl [Hb] <;> iassumption
  iintro HfB
  iapply (loop2 d L (hin (smp L j.val)) _ _ _ _ _ _ _) $$ [Hd Ha]
  · isplitl [Hd] <;> iassumption
  iintro ⟨Hd, Ha⟩
  iapply (issueD d L q Dc _ (n := smp L j.val + 1) (by rw [k0_off8_eq, smp_eq])) $$ [HD Hd Hs4]
  · isplitl [HD]; · iexact HD
    isplitl [Hd] <;> iassumption
  iintro HfD
  rw [wp_ret]; imodintro
  isplitr; · ipureintro; rfl
  isplitl [HO]; · iexact HO
  isplitl [HfD]; · iexact HfD
  isplitl [HfB]; · iexact HfB
  iexists _; iexact Ha

/-- Before trip `j`: the sums over the samples so far, and the trip's two blocks in flight. -/
abbrev Before (O : CellTallies nD τ sig (HIx 1)) (W : Waits sig (HIx 1)) (j : ℕ) (a : FVec F S16 .f32 × FVec F S16 .f32) : sProp 𝕄 :=
  iprop(⌜a = sums Dc Yc (4 * (widL L).val) (2 * j)⌝ ∗ levAts (K (F := F)).L (K (F := F)).lev ∗ Owing d L O W ∗ (∃ f, (sB).view.loc (thr d L) ↦{fullShare} f)
    ∗ FlD d L q Dc (smp L j) ∗ FlA d L q Yc (smp L j))
/-- After the last trip: the sums over the samples, and everything back. -/
abbrev After (O : CellTallies nD τ sig (HIx 1)) (W : Waits sig (HIx 1)) (j : ℕ) (a : FVec F S16 .f32 × FVec F S16 .f32) : sProp 𝕄 :=
  iprop(⌜a = sums Dc Yc (4 * (widL L).val) (2 * j)⌝ ∗ levAts (K (F := F)).L (K (F := F)).lev ∗ Owing d L O W ∗ (∃ f, (sB).view.loc (thr d L) ↦{fullShare} f)
    ∗ (∃ f, (sD).view.loc (thr d L) ↦{fullShare} f) ∗ (∃ f, (sA).view.loc (thr d L) ↦{fullShare} f)
    ∗ ((dV).view.loc (thr d L) ↦{q} Dc) ∗ ((yV).view.loc (thr d L) ↦{q} Yc)
    ∗ semVal (thr d L, .dma cc0_scratch4.sem) 0 ∗ semVal (thr d L, .dma cc0_scratch5.sem) 0)

/-- Two samples more in the sums. -/
theorem sums_two {Dc : S128x512x128.Idx → F .f32} {Yc : S128x128x128.Idx → F .f32} {b j : ℕ} {a1 a2 r1 r2 : FVec F S16 .f32}
    (ha : (a1, a2) = sums Dc Yc b (2 * j))
    (hr : (r1, r2) = runV (dB Dc (b + 2 * j)) (yB Yc (b + 2 * j)) (a1, a2) 512) :
    runV (dB Dc (b + 2 * j + 1)) (yB Yc (b + 2 * j + 1)) (r1, r2) 512 = sums Dc Yc b (2 * (j + 1)) := by
  rw [hr, ha]; rfl

/-- A trip that is not the last. -/
theorem trip1_first (hO : ∀ g, O g none = 0) (hin : ∀ n, InMap (yB Yc n)) (v2 : BitVec 32) (j : Fin k0_t1_loop.trips) (h : j.val < 1) (a1 a2 : FVec F S16 .f32) :
    (Before d L q Dc Yc O W j.val (a1, a2) : sProp 𝕄)
      ⊢ wp frame (wpE (defs₀ (F := F)) 𝒱₀ (thr d L) none) Set.univ
          (k0_t1_body L yV (Memref.isWhole_whole _) dV (Memref.isWhole_whole _) oV (Memref.isWhole_whole _) sD (Memref.isWhole_whole _)
            sA (Memref.isWhole_whole _) sB (Memref.isWhole_whole _) sO (Memref.isWhole_whole _) cc0_scratch4 cc0_scratch5 cc0_scoped0 v2 j (a1, a2))
          (Before d L q Dc Yc O W (j.val + 1)) := by
  unfold k0_t1_body
  simp only [dif_pos ((cond1_iff j).mpr h), dif_pos ((cond2_iff j).mpr h)]
  rw [wp_bind]
  iintro ⟨%ha, #Hlv, HO, Hb, HfD, HfA⟩
  iapply (BIBase.Entails.trans (half1 d L q Dc Yc hO hin v2 0#32 1#32 j a1 a2) (wp_wand frame (wpE (defs₀ (F := F)) 𝒱₀ (thr d L) none) Set.univ)) $$ [HO Hb HfD HfA]
  · isplitr; · iexact Hlv
    isplitl [HO]; · iexact HO
    isplitl [HfD]; · iexact HfD
    isplitl [HfA] <;> iassumption
  iintro %r ⟨%hr, HO, HfD, HfB, %fa, Ha⟩
  obtain ⟨r1, r2, r3, r4⟩ := r
  simp only [Prog.lift, Prog.bind_op, Prog.bind_ret, Prog.pure_eq_ret]
  iapply (wp_wait d L hO (N := ND) rfl) $$ [HfD HO]
  · isplitr; · iexact Hlv
    isplitl [HfD] <;> iassumption
  iintro ⟨⟨Hd, HD⟩, Hs4, HO⟩
  iapply (wp_wait d L hO (N := NZ) rfl) $$ [HfB HO]
  · isplitr; · iexact Hlv
    isplitl [HfB] <;> iassumption
  iintro ⟨⟨Hb, HY⟩, Hs5, HO⟩
  iapply (issueA d L q Yc _ (n := smp L (j.val + 1)) (by rw [k0_off9_eq]; exact congrArg (fun n => ![n, 0, 0]) (by have := smp_eq L j.val; have := smp_eq L (j.val + 1); omega))) $$ [HY Ha Hs5]
  · isplitl [HY]; · iexact HY
    isplitl [Ha] <;> iassumption
  iintro HfA
  iapply (loop3 d L (hin (smp L j.val + 1)) _) $$ [Hd Hb]
  · isplitl [Hd] <;> iassumption
  iintro ⟨Hd, Hb⟩
  iapply (issueD d L q Dc _ (n := smp L (j.val + 1)) (by rw [k0_off12_eq]; exact congrArg (fun n => ![n, 0, 0]) (by have := smp_eq L j.val; have := smp_eq L (j.val + 1); omega))) $$ [HD Hd Hs4]
  · isplitl [HD]; · iexact HD
    isplitl [Hd] <;> iassumption
  iintro HfD
  rw [wp_ret]; imodintro
  isplitr
  · ipureintro
    exact sums_two ha hr
  isplitr; · iexact Hlv
  isplitl [HO]; · iexact HO
  isplitl [Hb]; · iexists _; iexact Hb
  isplitl [HfD] <;> iassumption

/-- The last trip. -/
theorem trip1_last (hO : ∀ g, O g none = 0) (hin : ∀ n, InMap (yB Yc n)) (v2 : BitVec 32) (j : Fin k0_t1_loop.trips) (h : ¬ j.val < 1) (a1 a2 : FVec F S16 .f32) :
    (Before d L q Dc Yc O W j.val (a1, a2) : sProp 𝕄)
      ⊢ wp frame (wpE (defs₀ (F := F)) 𝒱₀ (thr d L) none) Set.univ
          (k0_t1_body L yV (Memref.isWhole_whole _) dV (Memref.isWhole_whole _) oV (Memref.isWhole_whole _) sD (Memref.isWhole_whole _)
            sA (Memref.isWhole_whole _) sB (Memref.isWhole_whole _) sO (Memref.isWhole_whole _) cc0_scratch4 cc0_scratch5 cc0_scoped0 v2 j (a1, a2))
          (After d L q Dc Yc O W (j.val + 1)) := by
  unfold k0_t1_body
  simp only [dif_neg (mt (cond1_iff j).mp h), dif_neg (mt (cond2_iff j).mp h)]
  rw [wp_bind]
  iintro ⟨%ha, #Hlv, HO, Hb, HfD, HfA⟩
  iapply (BIBase.Entails.trans (half1 d L q Dc Yc hO hin v2 0#32 1#32 j a1 a2) (wp_wand frame (wpE (defs₀ (F := F)) 𝒱₀ (thr d L) none) Set.univ)) $$ [HO Hb HfD HfA]
  · isplitr; · iexact Hlv
    isplitl [HO]; · iexact HO
    isplitl [HfD]; · iexact HfD
    isplitl [HfA] <;> iassumption
  iintro %r ⟨%hr, HO, HfD, HfB, %fa, Ha⟩
  obtain ⟨r1, r2, r3, r4⟩ := r
  simp only [Prog.lift, Prog.bind_op, Prog.bind_ret, Prog.pure_eq_ret]
  iapply (wp_wait d L hO (N := ND) rfl) $$ [HfD HO]
  · isplitr; · iexact Hlv
    isplitl [HfD] <;> iassumption
  iintro ⟨⟨Hd, HD⟩, Hs4, HO⟩
  iapply (wp_wait d L hO (N := NZ) rfl) $$ [HfB HO]
  · isplitr; · iexact Hlv
    isplitl [HfB] <;> iassumption
  iintro ⟨⟨Hb, HY⟩, Hs5, HO⟩
  iapply (loop3 d L (hin (smp L j.val + 1)) _) $$ [Hd Hb]
  · isplitl [Hd] <;> iassumption
  iintro ⟨Hd, Hb⟩
  rw [wp_ret]; imodintro
  isplitr
  · ipureintro
    exact sums_two ha hr
  isplitr; · iexact Hlv
  isplitl [HO]; · iexact HO
  isplitl [Hb]; · iexists _; iexact Hb
  isplitl [Hd]; · iexists _; iexact Hd
  isplitl [Ha]; · iexists _; iexact Ha
  isplitl [HD]; · iexact HD
  isplitl [HY]; · iexact HY
  isplitl [Hs4] <;> iassumption

/-! ## The tile's row of the result -/

abbrev rS : Rect S16 := Rect.unit (s := S16) ![0] S16.size inb_S16_S16_0
theorem pts_rS (f : S16.Idx → F .f32) :
    (((sO).access rS).loc (thr d L) ↦{fullShare} f : sProp 𝕄) = (sO).view.loc (thr d L) ↦{fullShare} f := rfl

/-- The sums' buffer after the store of a whole vector. -/
theorem write_rS (f w : S16.Idx → F .f32) : ((sO).access rS).write (Elt F) f w Finset.univ = w := by
  funext i
  have h := View.write_emb_of_mem (v := ((sO).access rS)) (Val := Elt F) f w (M := Finset.univ) (x := i) (Finset.mem_univ _)
  have e : ((sO).access rS).emb i = i := by
    funext a
    apply Fin.ext
    match a with
    | ⟨0, _⟩ => show 0 + 1 * (i 0).val = (i 0).val; omega
  rw [e] at h
  exact h

/-- Writing a tile's row of the result with its sums is the result's value there. -/
theorem write_row (fo : S32x16.Idx → F .f32) :
    ∀ i ∈ oSet (widL L), (oRowK L).view.write (Elt F) fo (outRow Dc Yc (widL L).val) Finset.univ i = outV Dc Yc i := by
  intro i hi
  rw [← set_oRowK] at hi
  obtain ⟨x, -, rfl⟩ := Finset.mem_map.mp hi
  obtain ⟨l, rfl⟩ : ∃ l : Fin 16, x = ix1 l := ⟨x 0, by funext a; rw [Subsingleton.elim a 0]⟩
  refine (View.write_emb_of_mem (v := (oRowK L).view) (Val := Elt F) fo (outRow Dc Yc (widL L).val) (Finset.mem_univ _)).trans ?_
  have e : (oRowK L).view.emb (ix1 l) = ix2 (widL L) l := by
    show (orowK L).idx (Shape.reshapeEquiv squeezes_S1x16_S16.numel_eq (ix1 l)) = _
    rw [Shape.reshapeEquiv_cons_one]
    funext a
    apply Fin.ext
    have h13 := k0_off13_eq L
    match a with
    | ⟨0, _⟩ =>
      show k0_off13 L 0 + 1 * 0 = 2 * (L 1).val + (L 0).val
      rw [h13]; rfl
    | ⟨1, _⟩ =>
      show k0_off13 L 1 + 1 * l.val = l.val
      rw [h13]; show 0 + 1 * l.val = l.val; omega
  rw [e]
  rfl

/-! ## The body -/

abbrev NO : ℕ := (oRowK L).view.dmaCredit

/-- The issue of the tile's row of the result. -/
theorem issueO {hsrc : (sO).view.WordExact} {hdst : (oRowK L).view.WordExact}
    {hsem : DmaTarget.Typed (nD := nD) (p := (thr d L).2) Space.vmem (.dma cc0_scoped0.sem) (.here (oRowK L))}
    {fo : S32x16.Idx → F .f32} {α : Type} {Q : α → sProp 𝕄} {k : PUnit → Prog (TpuEff nD τ sig (Elt F) Λ₀ (thr d L).2) α} :
    (iprop(((sO).view.loc (thr d L) ↦{fullShare} outRow Dc Yc (widL L).val) ∗ ((oRowK L).view.loc (thr d L) ↦[oSet (widL L)]{fullShare} fo)
        ∗ semVal (thr d L, .dma cc0_scoped0.sem) 0) : sProp 𝕄)
      ⊢ iprop((Transfers.Flight countersEmb (thr d L) (.dma cc0_scoped0.sem) (default : HIx 1) (NO L)
            iprop(((oRowK L).view.loc (thr d L) ↦[oSet (widL L)]{fullShare} outV Dc Yc)
              ∗ ((sO).view.loc (thr d L) ↦{fullShare} outRow Dc Yc (widL L).val))
          -∗ wp frame (wpE (defs₀ (F := F)) 𝒱₀ (thr d L) none) Set.univ (k ⟨⟩) Q)
        -∗ wp frame (wpE (defs₀ (F := F)) 𝒱₀ (thr d L) none) Set.univ
          (.op (.enqueueDma sO (.here (oRowK L)) (.dma cc0_scoped0.sem) hsrc hdst hsem) k) Q) := by
  have hback : (iprop(((oRowK L).view.loc (thr d L) ↦[oSet (widL L)]{fullShare}
          ((oRowK L).view.write (Elt F) fo ((sO).view.read (Elt F) (outRow Dc Yc (widL L).val)) Finset.univ))
        ∗ ((sO).view.loc (thr d L) ↦[(sO).view.set]{fullShare} outRow Dc Yc (widL L).val)) : sProp 𝕄)
      ⊢ iprop(((oRowK L).view.loc (thr d L) ↦[oSet (widL L)]{fullShare} outV Dc Yc)
        ∗ ((sO).view.loc (thr d L) ↦{fullShare} outRow Dc Yc (widL L).val)) := by
    rw [show (sO).view.set = Finset.univ from View.set_whole _]
    exact sep_mono_left (BIBase.Entails.of_eq (pointsTo_congr (write_row L Dc Yc fo)))
  iintro ⟨Hs, Hd, Hv⟩ Hk
  iapply (Transfers.wp_dmaLocal countersEmb 𝒱₀ (thr d L) none (via := ReadAs.same) (default : HIx 1) (NO L) rfl (View.dmaCredit_pos _ (by decide))
    (set_oRowK L).subset) $$ [Hs Hd Hv]
  · isplitl [Hs]
    · rw [show (sO).view.set = Finset.univ from View.set_whole _]; iexact Hs
    isplitl [Hd]; · iexact Hd
    iexact Hv
  iintro Hf
  iapply Hk
  iapply (Transfers.Flight_mono countersEmb (thr d L) hback) $$ Hf

set_option maxRecDepth 16384 in
/-- A tile's body: with a share of each input and its row of the result, it gives the shares back and its row written
    with its sums. -/
theorem tile_body (hF : (K (F := F)).Facts) (hO : ∀ g, O g none = 0) (hin : ∀ n, InMap (yB Yc n)) (fo : S32x16.Idx → F .f32) :
    (iprop(levAts (K (F := F)).L (K (F := F)).lev
        ∗ ((dLoc d ↦{q} Dc) ∗ (yLoc d ↦{q} Yc) ∗ (oLoc d ↦[oSet (widL L)]{fullShare} fo))
        ∗ scopedBufs (thr d L) ∗ scopedSems0 (thr d L) ∗ owes (thr d L) O W) : sProp 𝕄)
      ⊢ wp frame (wpE (defs₀ (F := F)) 𝒱₀ (thr d L) none) Set.univ
          (cc0_sc_call L yV (Memref.isWhole_whole _) dV (Memref.isWhole_whole _) oV (Memref.isWhole_whole _) sD (Memref.isWhole_whole _)
            sA (Memref.isWhole_whole _) sB (Memref.isWhole_whole _) sO (Memref.isWhole_whole _) cc0_scratch4 cc0_scratch5 cc0_scoped0)
          fun _ => iprop(((dLoc d ↦{q} Dc) ∗ (yLoc d ↦{q} Yc) ∗ (oLoc d ↦[oSet (widL L)]{fullShare} outV Dc Yc))
            ∗ scopedBufs (thr d L) ∗ scopedSems0 (thr d L) ∗ ∃ W', ⌜∀ p ∈ W', p ∈ W ∨ p.2 = none⌝ ∗ owes (thr d L) O W') := by
  simp only [cc0_sc_call_eq_skeleton]; unfold cc0_sc_call_skel
  simp only [k0_part4_eq_skeleton]; unfold k0_part4_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_V, ownBufs_V]
  iintro ⟨#Hlv, ⟨HD, HY, Ho⟩, ⟨⟨%fd, Hd⟩, ⟨%fa, Ha⟩, Hb, ⟨%fc, Hc⟩, Hbufs⟩, ⟨Hs4, Hs5, Hs6, Hsems⟩, HO⟩
  iapply (issueD d L q Dc _ (n := smp L 0) (by rw [k0_off1_eq, ← smp_eq]; rfl)) $$ [HD Hd Hs4]
  · isplitl [HD]; · iexact HD
    isplitl [Hd] <;> iassumption
  iintro HfD
  iapply (issueA d L q Yc _ (n := smp L 0) (by rw [k0_off2_eq, ← smp_eq]; rfl)) $$ [HY Ha Hs5]
  · isplitl [HY]; · iexact HY
    isplitl [Ha] <;> iassumption
  iintro HfA
  iapply (Scf.wp_for_bind (I := fun j a => if j < 2 then Before d L q Dc Yc O W j a else After d L q Dc Yc O W j a) (hbody := ?hb)) $$ [HfD HfA HO Hb]
  case hb =>
    intro j a
    obtain ⟨a1, a2⟩ := a
    have hj : j.val < 2 := j.isLt
    by_cases h : j.val < 1
    · rw [if_pos hj]
      refine (trip1_first d L q Dc Yc hO hin _ j h a1 a2).trans (wp_mono frame _ _ fun r => ?_)
      rw [if_pos (by omega)]
    · rw [if_pos hj]
      refine (trip1_last d L q Dc Yc hO hin _ j h a1 a2).trans (wp_mono frame _ _ fun r => ?_)
      rw [if_neg (by omega)]
  · rw [if_pos (by decide)]
    isplitr; · ipureintro; rfl
    isplitr; · iexact Hlv
    isplitl [HO]
    · iexists _; isplitr
      swap; · iexact HO
      ipureintro; exact fun p hp => .inl hp
    isplitl [Hb]; · iexact Hb
    isplitl [HfD] <;> iassumption
  iintro %acc Hafter
  ihave Hafter' := (BIBase.Entails.of_eq (if_neg (show ¬ Scf.trips k0_t1_loop.lb k0_t1_loop.ub k0_t1_loop.st < 2 by decide))) $$ Hafter
  icases Hafter' with ⟨%hb, -, HO, ⟨%gb, Hb⟩, ⟨%gd, Hd⟩, ⟨%ga, Ha⟩, HD, HY, Hs4, Hs5⟩
  subst hb
  iapply (wp_load 𝒱₀ (thr d L) none Set.univ (m := sO) (S := Finset.univ) (Finset.subset_univ _)) $$ Hc
  iintro Hc
  iapply (wp_store 𝒱₀ (thr d L) none Set.univ (m := sO) (r := rS) (Mk := Finset.univ) (S := Finset.univ) (Finset.subset_univ _)) $$ Hc
  iintro Hc
  ihave Hc := (BIBase.Entails.of_eq (congrArg (fun g => ((sO).view.loc (thr d L) ↦{fullShare} g : sProp 𝕄)) (write_rS _ _))) $$ Hc
  iapply (issueO d L Dc Yc) $$ [Hc Ho Hs6]
  · isplitl [Hc]; · iexact Hc
    isplitl [Ho] <;> iassumption
  iintro Hf
  iapply (wp_wait d L hO (N := NO L) rfl) $$ [Hf HO]
  · isplitr; · iexact Hlv
    isplitl [Hf] <;> iassumption
  iintro ⟨⟨Ho, Hc⟩, Hs6, HO⟩
  rw [wp_ret]; imodintro
  isplitl [HD HY Ho]
  · isplitl [HD]; · iexact HD
    isplitl [HY] <;> iassumption
  isplitl [Hd Ha Hb Hc Hbufs]
  · isplitl [Hd]; · iexists _; iexact Hd
    isplitl [Ha]; · iexists _; iexact Ha
    isplitl [Hb]; · iexists _; iexact Hb
    isplitl [Hc]; · iexists _; iexact Hc
    iexact Hbufs
  isplitl [Hs4 Hs5 Hs6 Hsems]
  · isplitl [Hs4]; · iexact Hs4
    isplitl [Hs5]; · iexact Hs5
    isplitl [Hs6]; · iexact Hs6
    iexact Hsems
  icases HO with ⟨%W', %hW', HO⟩
  iexists _
  isplitr
  swap; · iexact HO
  ipureintro; exact hW'

end Body

end Cert.Proof.Tile

end
-- ==== Proof.Run.lean ====
/-
  The launch: what the call's operands are, how they split between the two SparseCores and their tiles and join again,
  the host operations around the call, and the run of the whole program with the value of its result.
-/
module

public import proofs.«01_k».proof.Proof.Tile
public import Idealize.ShloMosaic.Lib.Pipeline.Frame

@[expose] public section

noncomputable section

namespace Cert.Proof.Tile

open Cert.KernelIdeal Cert.KernelIdeal.Gen Cert.Proof.Trip

open Idealize.ShloMosaic Idealize.ShloMosaic.ValueIdx
open Idealize.ShloMosaic.SparseCore (S V T)
open Idealize.ShloMosaic.SparseCore.Cfg (HIx Pay)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type} [FloatOps F]

local notation "𝕄" => MT nD τ sig (HIx 1) (Elt F) ℕ UU ℕ
local notation "yV" => (Memref.whole Cert.KernelIdeal.main_v2_scv : Memref Cert.KernelIdeal.sig Kind.scVector Space.hbm Cert.KernelIdeal.S128x128x128 EltTy.f32)
local notation "dV" => (Memref.whole Cert.KernelIdeal.main_v5_scv : Memref Cert.KernelIdeal.sig Kind.scVector Space.hbm Cert.KernelIdeal.S128x512x128 EltTy.f32)
local notation "oV" => (Memref.whole Cert.KernelIdeal.main_v6_scv : Memref Cert.KernelIdeal.sig Kind.scVector Space.hbm Cert.KernelIdeal.S32x16 EltTy.f32)
local notation "sD" => (Memref.whole Cert.KernelIdeal.cc0_scratch0 : Memref Cert.KernelIdeal.sig Kind.scVector Space.vmem Cert.KernelIdeal.S512x128 EltTy.f32)
local notation "sA" => (Memref.whole Cert.KernelIdeal.cc0_scratch1 : Memref Cert.KernelIdeal.sig Kind.scVector Space.vmem Cert.KernelIdeal.S128x128 EltTy.f32)
local notation "sB" => (Memref.whole Cert.KernelIdeal.cc0_scratch2 : Memref Cert.KernelIdeal.sig Kind.scVector Space.vmem Cert.KernelIdeal.S128x128 EltTy.f32)
local notation "sO" => (Memref.whole Cert.KernelIdeal.cc0_scratch3 : Memref Cert.KernelIdeal.sig Kind.scVector Space.vmem Cert.KernelIdeal.S16 EltTy.f32)

/-! ## The call's operands and the program's result -/

/-- The coordinates as the call takes them. -/
def yT (a : S128x8192x2.Idx → F .f32) : S128x128x128.Idx → F .f32 :=
  shapeCast S128x128x128 (transpose S128x64x2x128 [0, 1, 3, 2] (shapeCast S128x64x128x2 a shapeCasts_S128x8192x2_S128x64x128x2)
    transposes_S128x64x128x2_S128x64x2x128_0_1_3_2) shapeCasts_S128x64x2x128_S128x128x128

/-- The maps as the call takes them. -/
def dT (a : S128x256x256.Idx → F .f32) : S128x512x128.Idx → F .f32 :=
  shapeCast S128x512x128 (transpose S128x32x2x8x128 [0, 1, 3, 2, 4] (shapeCast S128x32x8x2x128 a shapeCasts_S128x256x256_S128x32x8x2x128)
    transposes_S128x32x8x2x128_S128x32x2x8x128_0_1_3_2_4) shapeCasts_S128x32x2x8x128_S128x512x128

/-- The program's result: the sum of the tiles' rows, times 2^-20. -/
def resK (a0 : S128x8192x2.Idx → F .f32) (a1 : S128x256x256.Idx → F .f32) : S_.Idx → F .f32 :=
  mulf (Host.reduceAdd (outV (dT a1) (yT a0)) (constant S_ .f32 0x00000000#32) reducesTo_S32x16_S_d0_1 h_S_) (constant S_ .f32 0x35800000#32)

theorem yT_mem (a : S128x8192x2.Idx → F .f32) (j : S128x128x128.Idx) : ∃ i, yT a j = a i := ⟨_, rfl⟩

variable (m : (ℓ : Loc nD τ sig) → Buf (Elt F) ℓ) (ρ : Dev nD → PrngReg)

abbrev rLoc (d : Dev nD) : Loc nD τ sig := (SparseCore.T d).loc main_v8
abbrev Yv (d : Dev nD) : S128x128x128.Idx → F .f32 := yT (m (a0Loc d))
abbrev Dv (d : Dev nD) : S128x512x128.Idx → F .f32 := dT (m (a1Loc d))

/-- What the run needs of the memory: every coordinate, scaled and truncated, is the index of a row or column. -/
def PreOK : Prop := ∀ d i, (wordOf (m (a0Loc d) i)).toNat < 256

theorem pre_inMap (h : PreOK m) (d : Dev nD) (n : ℕ) : InMap (yB (Yv m d) n) :=
  inMap_yB (fun j => by obtain ⟨i, e⟩ := yT_mem (m (a0Loc d)) j; rw [show Yv m d j = m (a0Loc d) i from e]; exact h d i) n

/-! ## What the handshakes carry -/

abbrev cix (c : Fin ((K (F := F)).nCore 0)) : Fin 2 := Fin.cast nCore_zero c
abbrev six (s : Fin ((K (F := F)).nSub 0)) : Fin 16 := Fin.cast nSub_zero s

/-- SparseCore `c`'s share of an input, and tile `s`'s share of that. -/
abbrev cq (c : Fin 2) : PosShare TreeShare := shareTok fullShare 2 c
abbrev tq (c : Fin 2) (s : Fin 16) : PosShare TreeShare := shareTok (cq c) 16 s

abbrev rowPts (d : Dev nD) (c : Fin 2) (s : Fin 16) (f : Buf (Elt F) (oLoc d)) : sProp 𝕄 := oLoc d ↦[oSet (wid c s)]{fullShare} f
abbrev rowsPts (d : Dev nD) (c : Fin 2) (f : Buf (Elt F) (oLoc d)) : sProp 𝕄 := bigSep Finset.univ fun s : Fin 16 => rowPts d c s f

/-- A SparseCore's part of the call: a share of each input and its tiles' rows of the result. -/
abbrev coreRes (d : Dev nD) (c : Fin 2) (f : Buf (Elt F) (oLoc d)) : sProp 𝕄 :=
  iprop((dLoc d ↦{cq c} Dv m d) ∗ (yLoc d ↦{cq c} Yv m d) ∗ rowsPts d c f)

/-- A tile's part of the call: a share of each input and its row of the result. -/
abbrev tileRes (d : Dev nD) (c : Fin 2) (s : Fin 16) (f : Buf (Elt F) (oLoc d)) : sProp 𝕄 :=
  iprop((dLoc d ↦{tq c s} Dv m d) ∗ (yLoc d ↦{tq c s} Yv m d) ∗ rowPts d c s f)

abbrev outD (d : Dev nD) : Buf (Elt F) (oLoc d) := outV (Dv m d) (Yv m d)

/-- Every part of the result goes out as the launch left it, and comes back written. -/
def P : (K (F := F)).Pay (nD := nD) (Val := Elt F) (Name := ℕ) (U := UU) where
  st := fun q d c => match q with | 0 => coreRes m d (cix c) (m (oLoc d))
  dn := fun q d c => match q with | 0 => coreRes m d (cix c) (outD m d)
  go := fun q d c s => match q with | 0 => tileRes m d (cix c) (six s) (m (oLoc d))
  td := fun q d c s => match q with | 0 => tileRes m d (cix c) (six s) (outD m d)
  x := fun _ _ => iprop(emp)

instance P_storable : (P (F := F) m).IsStorable where
  st q d c := match q with
    | 0 => (inferInstance : BI.Storable (upEmb : UEmb _ 𝕄) (coreRes m d (cix c) (m (oLoc d))))
  dn q d c := match q with
    | 0 => (inferInstance : BI.Storable (upEmb : UEmb _ 𝕄) (coreRes m d (cix c) (outD m d)))
  go q d c s := match q with
    | 0 => (inferInstance : BI.Storable (upEmb : UEmb _ 𝕄) (tileRes m d (cix c) (six s) (m (oLoc d))))
  td q d c s := match q with
    | 0 => (inferInstance : BI.Storable (upEmb : UEmb _ 𝕄) (tileRes m d (cix c) (six s) (outD m d)))

/-! ## The obligation of a tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_call (coordsV c s)
          yV (Memref.isWhole_whole _) dV (Memref.isWhole_whole _) oV (Memref.isWhole_whole _) sD (Memref.isWhole_whole _)
          sA (Memref.isWhole_whole _) sB (Memref.isWhole_whole _) sO (Memref.isWhole_whole _) cc0_scratch4 cc0_scratch5 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tile_body' (hF : (K (F := F)).Facts) (hpre : PreOK m) (d : Dev nD) (L : grid0.Coords) (O : CellTallies nD τ sig (HIx 1)) (W : Waits sig (HIx 1))
    (hO : ∀ g, O g none = 0) :
    (iprop(levAts (K (F := F)).L (K (F := F)).lev ∗ emp ∗ tileRes m d (L 0) (L 1) (m (oLoc d)) ∗ scopedBufs (thr d L) ∗ scopedSems0 (thr d L) ∗ owes (thr d L) O W) : sProp 𝕄)
      ⊢ wp frame (wpE (defs₀ (F := F)) 𝒱₀ (thr d L) none) Set.univ
          (cc0_sc_call L yV (Memref.isWhole_whole _) dV (Memref.isWhole_whole _) oV (Memref.isWhole_whole _) sD (Memref.isWhole_whole _)
            sA (Memref.isWhole_whole _) sB (Memref.isWhole_whole _) sO (Memref.isWhole_whole _) cc0_scratch4 cc0_scratch5 cc0_scoped0)
          fun _ => iprop(tileRes m d (L 0) (L 1) (outD m d) ∗ scopedBufs (thr d L) ∗ scopedSems0 (thr d L) ∗ ∃ W', ⌜∀ p ∈ W', p ∈ W ∨ p.2 = none⌝ ∗ owes (thr d L) O W') :=
  (show _ ⊢ _ by iintro ⟨H1, -, H2⟩; isplitl [H1]; · iexact H1
                 iexact H2).trans
    (tile_body d L (tq (L 0) (L 1)) (Dv m d) (Yv m d) hF hO (pre_inMap m hpre d) (m (oLoc d)))

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body' m hF hpre d (coordsV ⟨_, hci.1⟩ ⟨_, hci.2⟩) O W hO).trans (wp_mono frame _ _ fun _ => obl_post)

/-! ## The splits -/

theorem oSet_eq (w : Fin 32) : oSet w = (orow w).set := by
  show ((View.whole (main_v6_scv : Ref sig .scVector)).slice (orow w)).set = _
  rw [View.set_slice]; exact Finset.map_refl

theorem wid_inj {p p' : Fin 2 × Fin 16} (h : p ≠ p') : wid p.1 p.2 ≠ wid p'.1 p'.2 := by
  intro e
  have e' : 2 * p.2.val + p.1.val = 2 * p'.2.val + p'.1.val := congrArg Fin.val e
  have := p.1.isLt; have := p'.1.isLt
  exact h (Prod.ext (Fin.ext (by omega)) (Fin.ext (by omega)))

theorem rows_disjoint : ∀ p ∈ (Finset.univ : Finset (Fin 2 × Fin 16)), ∀ p' ∈ (Finset.univ : Finset (Fin 2 × Fin 16)), p ≠ p' →
    Disjoint (oSet (wid p.1 p.2)) (oSet (wid p'.1 p'.2)) :=
  fun _ _ _ _ h => by rw [oSet_eq, oSet_eq]; exact Rect.part_disjoint odiv (wid_inj h)

theorem rows_cover : (Finset.univ : Finset (Fin 2 × Fin 16)).biUnion (fun p => oSet (wid p.1 p.2)) = Finset.univ := by
  ext i
  simp only [Finset.mem_biUnion, Finset.mem_univ, true_and, iff_true]
  have h : i ∈ (Finset.univ : Finset (Fin 32)).biUnion fun w => (orow w).set := by
    rw [Rect.biUnion_part odiv]; exact Finset.mem_univ i
  obtain ⟨w, -, hw⟩ := Finset.mem_biUnion.mp h
  refine ⟨(⟨w.val % 2, Nat.mod_lt _ (by decide)⟩, ⟨w.val / 2, by omega⟩), ?_⟩
  rw [oSet_eq]
  have e : wid ⟨w.val % 2, Nat.mod_lt _ (by decide)⟩ ⟨w.val / 2, by omega⟩ = w := Fin.ext (Nat.div_add_mod _ _)
  exact e.symm ▸ hw

/-- The result whole is its rows, SparseCore by SparseCore and tile by tile. -/
theorem oPts_rows (d : Dev nD) (f : Buf (Elt F) (oLoc d)) :
    (oLoc d ↦{fullShare} f : sProp 𝕄) = bigSep Finset.univ fun c : Fin 2 => rowsPts d c f := by
  rw [← bigSep_univ_prod (fun p : Fin 2 × Fin 16 => rowPts d p.1 p.2 f),
    ← pointsTo_biUnion Finset.univ (ℓ := oLoc d) (fun p : Fin 2 × Fin 16 => oSet (wid p.1 p.2)) rows_disjoint, rows_cover]; try rfl

theorem bigSep_cores (Φ : Fin 2 → sProp 𝕄) :
    (bigSep Finset.univ fun c : Fin ((K (F := F)).nCore 0) => Φ (cix c)) = bigSep Finset.univ Φ :=
  bigSep_congr fun _ _ => congrArg Φ (Fin.ext rfl)
theorem bigSep_tiles (Φ : Fin 16 → sProp 𝕄) :
    (bigSep Finset.univ fun s : Fin ((K (F := F)).nSub 0) => Φ (six s)) = bigSep Finset.univ Φ :=
  bigSep_congr fun _ _ => congrArg Φ (Fin.ext rfl)

theorem vecSplit : (K (F := F)).VecSplit' (P m) 0 := by
  intro d c
  show coreRes m d (cix c) (m (oLoc d)) ⊢ |={Set.univ}=> iprop(
      (bigSep Finset.univ fun s : Fin ((K (F := F)).nSub 0) => tileRes m d (cix c) (six s) (m (oLoc d)))
      ∗ ((bigSep Finset.univ fun s : Fin ((K (F := F)).nSub 0) => tileRes m d (cix c) (six s) (outD m d)) -∗ coreRes m d (cix c) (outD m d)))
  rw [bigSep_tiles (F := F) (fun s => tileRes m d (cix c) s (m (oLoc d))), bigSep_tiles (F := F) (fun s => tileRes m d (cix c) s (outD m d)),
    bigSep_sep', bigSep_sep', bigSep_sep', bigSep_sep']
  iintro ⟨HD, HY, Ho⟩
  ihave HD' := (pointsTo_toks_split (cq (cix c)) 16) $$ HD
  icases HD' with ⟨HDr, HD⟩
  ihave HY' := (pointsTo_toks_split (cq (cix c)) 16) $$ HY
  icases HY' with ⟨HYr, HY⟩
  imodintro
  isplitl [HD HY Ho]
  · isplitl [HD]; · iexact HD
    isplitl [HY]; · iexact HY
    iexact Ho
  iintro ⟨HD, HY, Ho⟩
  isplitl [HD HDr]
  · iapply (pointsTo_toks_join (cq (cix c)) 16); isplitl [HDr] <;> iassumption
  isplitl [HY HYr]
  · iapply (pointsTo_toks_join (cq (cix c)) 16); isplitl [HYr] <;> iassumption
  iexact Ho

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host operations -/

open Idealize.ShloMosaic.StableHlo in
/-- What the host does before the call: both inputs into the call's layouts. -/
abbrev preOps : List (HloOp τ sig (Elt F)) :=
  [ reshape main_arg0 main_v0 (rfl : (.f32 : EltTy) = .f32) shapeCasts_S128x8192x2_S128x64x128x2,
    unary main_v0 main_v1 ((transpose S128x64x2x128 [0, 1, 3, 2] · transposes_S128x64x128x2_S128x64x2x128_0_1_3_2) : (⟨S128x64x128x2, .f32⟩ : BufTy).Contents (Elt F) → (⟨S128x64x2x128, .f32⟩ : BufTy).Contents (Elt F)),
    reshape main_v1 main_v2 (rfl : (.f32 : EltTy) = .f32) shapeCasts_S128x64x2x128_S128x128x128,
    reshape main_arg1 main_v3 (rfl : (.f32 : EltTy) = .f32) shapeCasts_S128x256x256_S128x32x8x2x128,
    unary main_v3 main_v4 ((transpose S128x32x2x8x128 [0, 1, 3, 2, 4] · transposes_S128x32x8x2x128_S128x32x2x8x128_0_1_3_2_4) : (⟨S128x32x8x2x128, .f32⟩ : BufTy).Contents (Elt F) → (⟨S128x32x2x8x128, .f32⟩ : BufTy).Contents (Elt F)),
    reshape main_v4 main_v5 (rfl : (.f32 : EltTy) = .f32) shapeCasts_S128x32x2x8x128_S128x512x128 ]

open Idealize.ShloMosaic.StableHlo in
/-- What it does after the call: the sum of the result, scaled. -/
abbrev postOps : List (HloOp τ sig (Elt F)) :=
  [ nullary main_cst (constant S_ .f32 0x00000000#32),
    binary main_v6 main_cst main_v7 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    nullary main_cst_0 (constant S_ .f32 0x35800000#32),
    binary main_v7 main_cst_0 main_v8 (mulf : (⟨S_, .f32⟩ : BufTy).Contents (Elt F) → (⟨S_, .f32⟩ : BufTy).Contents (Elt F) → (⟨S_, .f32⟩ : BufTy).Contents (Elt F)) ]

open Idealize.ShloMosaic.StableHlo in
theorem main_eq (d : Dev nD) :
    main (F := F) d = seq preOps >>= fun _ => ((sc (F := F)).run d 0 >>= fun _ => (seq postOps >>= fun _ => pure ⟨⟩)) := rfl

abbrev a0' : DevRef τ sig := Proc.devRef .tc (main_arg0 : Ref sig .tc)
abbrev a1' : DevRef τ sig := Proc.devRef .tc (main_arg1 : Ref sig .tc)
abbrev y' : DevRef τ sig := Proc.devRef .tc (main_v2 : Ref sig .tc)
abbrev d' : DevRef τ sig := Proc.devRef .tc (main_v5 : Ref sig .tc)
abbrev o' : DevRef τ sig := Proc.devRef .tc (main_v6 : Ref sig .tc)
abbrev r' : DevRef τ sig := Proc.devRef .tc (main_v8 : Ref sig .tc)

/-- The memory at the launch, before the call, after it, and at the end. -/
def V0 (d : Dev nD) : Valuation τ sig (Elt F) := fun b => m (d, b)
def V1 (d : Dev nD) : Valuation τ sig (Elt F) := StableHlo.after preOps (V0 m d)
def V2 (d : Dev nD) : Valuation τ sig (Elt F) := Function.update (V1 m d) o' (outD m d)
def V3 (d : Dev nD) : Valuation τ sig (Elt F) := StableHlo.after postOps (V2 m d)

open Idealize.ShloMosaic.StableHlo in
theorem V1_y (d : Dev nD) : V1 m d y' = Yv m d := by
  unfold V1; simp only [preOps]; after_results_simp <;> rfl
open Idealize.ShloMosaic.StableHlo in
theorem V1_d (d : Dev nD) : V1 m d d' = Dv m d := by
  unfold V1; simp only [preOps]; after_results_simp <;> rfl
open Idealize.ShloMosaic.StableHlo in
theorem V1_o (d : Dev nD) : V1 m d o' = m (oLoc d) := by
  unfold V1; simp only [preOps]; after_results_simp <;> rfl
open Idealize.ShloMosaic.StableHlo in
theorem V1_a0 (d : Dev nD) : V1 m d a0' = m (a0Loc d) := by
  unfold V1; simp only [preOps]; after_results_simp <;> rfl
open Idealize.ShloMosaic.StableHlo in
theorem V1_a1 (d : Dev nD) : V1 m d a1' = m (a1Loc d) := by
  unfold V1; simp only [preOps]; after_results_simp <;> rfl

theorem V2_of_ne (d : Dev nD) {b : DevRef τ sig} (h : b ≠ o') : V2 m d b = V1 m d b := Function.update_of_ne h _ _
theorem V2_o (d : Dev nD) : V2 m d o' = outD m d := Function.update_self _ _ _

open Idealize.ShloMosaic.StableHlo in
theorem V3_a0 (d : Dev nD) : V3 m d a0' = m (a0Loc d) := by
  have e : V3 m d a0' = V2 m d a0' := by unfold V3; simp only [postOps]; after_results_simp <;> rfl
  rw [e, V2_of_ne m d (by decide), V1_a0]
open Idealize.ShloMosaic.StableHlo in
theorem V3_a1 (d : Dev nD) : V3 m d a1' = m (a1Loc d) := by
  have e : V3 m d a1' = V2 m d a1' := by unfold V3; simp only [postOps]; after_results_simp <;> rfl
  rw [e, V2_of_ne m d (by decide), V1_a1]
open Idealize.ShloMosaic.StableHlo in
theorem V3_r (d : Dev nD) : V3 m d r' = resK (m (a0Loc d)) (m (a1Loc d)) := by
  have e : V3 m d r' = mulf (Host.reduceAdd (V2 m d o') (constant S_ .f32 0x00000000#32) reducesTo_S32x16_S_d0_1 h_S_) (constant S_ .f32 0x35800000#32) := by
    unfold V3; simp only [postOps]; after_results_simp <;> rfl
  rw [e, V2_o]; rfl

/-! ## The program on the host -/

abbrev UR : Finset (DevRef τ sig) := Pipeline.ucRefs τ sig
abbrev callRefs : Finset (DevRef τ sig) := {d', y', o'}
abbrev finRefs : Finset (DevRef τ sig) := {a0', a1', r'}

theorem held_call (d : Dev nD) (W : Valuation τ sig (Elt F)) :
    (held (T d) callRefs W : sProp 𝕄) = iprop((dLoc d ↦{fullShare} W d') ∗ (yLoc d ↦{fullShare} W y') ∗ oLoc d ↦{fullShare} W o') := by
  unfold held callRefs
  rw [SparseCore.bigSep_insert' (by decide), SparseCore.bigSep_insert' (by decide), bigSep_singleton]
theorem held_fin (d : Dev nD) (W : Valuation τ sig (Elt F)) :
    (held (T d) finRefs W : sProp 𝕄) = iprop((a0Loc d ↦{fullShare} W a0') ∗ (a1Loc d ↦{fullShare} W a1') ∗ rLoc d ↦{fullShare} W r') := by
  unfold held finRefs
  rw [SparseCore.bigSep_insert' (by decide), SparseCore.bigSep_insert' (by decide), bigSep_singleton]

theorem callRefs_sub : callRefs ⊆ UR := by decide
theorem finRefs_sub : finRefs ⊆ UR := by decide

/-- The buffers that the call does not take are the same before and after it. -/
theorem held_rest (d : Dev nD) : (held (T d) (UR \ callRefs) (V1 m d) : sProp 𝕄) = held (T d) (UR \ callRefs) (V2 m d) :=
  StableHlo.held_congr _ fun b hb => (V2_of_ne m d fun e => (Finset.mem_sdiff.mp hb).2 (by rw [e]; decide)).symm

theorem st0_eq (d : Dev nD) : (bigSep Finset.univ fun c : Fin ((K (F := F)).nCore 0) => (P m).st 0 d c)
    = iprop((bigSep Finset.univ fun c : Fin 2 => dLoc d ↦{cq c} Dv m d) ∗ (bigSep Finset.univ fun c : Fin 2 => yLoc d ↦{cq c} Yv m d) ∗ oLoc d ↦{fullShare} m (oLoc d)) := by
  rw [oPts_rows, ← bigSep_sep', ← bigSep_sep']
  exact bigSep_cores (fun c => coreRes m d c (m (oLoc d)))
theorem dn0_eq (d : Dev nD) : (bigSep Finset.univ fun c : Fin ((K (F := F)).nCore 0) => (P m).dn 0 d c)
    = iprop((bigSep Finset.univ fun c : Fin 2 => dLoc d ↦{cq c} Dv m d) ∗ (bigSep Finset.univ fun c : Fin 2 => yLoc d ↦{cq c} Yv m d) ∗ oLoc d ↦{fullShare} outD m d) := by
  rw [oPts_rows, ← bigSep_sep', ← bigSep_sep']
  exact bigSep_cores (fun c => coreRes m d c (outD m d))

/-- What is left at the end: the arguments as they were, and the result. -/
abbrev FIN (d : Dev nD) : sProp 𝕄 :=
  iprop((a0Loc d ↦{fullShare} m (a0Loc d)) ∗ (a1Loc d ↦{fullShare} m (a1Loc d)) ∗ rLoc d ↦{fullShare} resK (m (a0Loc d)) (m (a1Loc d)))

theorem unscoped_held (d : Dev nD) : (unscopedBufs d (fun b => m ((SparseCore.T d).loc b)) : sProp 𝕄) = held (T d) UR (V0 m d) :=
  Pipeline.unscopedBufs_held d (V0 m d)

theorem preOps_sub : ∀ op ∈ preOps (F := F), op.bufs ⊆ UR := by
  intro op h
  apply Pipeline.sub_ucRefs
  simp only [preOps, List.mem_cons, List.not_mem_nil, or_false] at h
  rcases h with rfl | rfl | rfl | rfl | rfl | rfl
  · exact StableHlo.reshape_bufs_sub ..
  · exact StableHlo.unary_bufs_sub ..
  · exact StableHlo.reshape_bufs_sub ..
  · exact StableHlo.reshape_bufs_sub ..
  · exact StableHlo.unary_bufs_sub ..
  · exact StableHlo.reshape_bufs_sub ..
theorem preOps_fresh : ∀ op ∈ preOps (F := F), op.fresh = ∅ := by
  intro op h
  simp only [preOps, List.mem_cons, List.not_mem_nil, or_false] at h
  rcases h with rfl | rfl | rfl | rfl | rfl | rfl <;> rfl
theorem postOps_sub : ∀ op ∈ postOps (F := F), op.bufs ⊆ UR := by
  intro op h
  apply Pipeline.sub_ucRefs
  simp only [postOps, List.mem_cons, List.not_mem_nil, or_false] at h
  rcases h with rfl | rfl | rfl | rfl
  · exact StableHlo.nullary_bufs_sub ..
  · exact StableHlo.binary_bufs_sub ..
  · exact StableHlo.nullary_bufs_sub ..
  · exact StableHlo.binary_bufs_sub ..
theorem postOps_fresh : ∀ op ∈ postOps (F := F), op.fresh = ∅ := by
  intro op h
  simp only [postOps, List.mem_cons, List.not_mem_nil, or_false] at h
  rcases h with rfl | rfl | rfl | rfl <;> rfl

/-- The host's program: the layouts, the call from shares of the two inputs and the whole result, the sum; the arguments
    are kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d UR _ (preOps (F := F)) preOps_sub preOps_fresh (V0 m d)) $$ [Hb Hheld]
  · isplitl [Hb] <;> iassumption
  iintro ⟨Hb, Hheld⟩
  ihave Hheld := (BIBase.Entails.of_eq (show (held (d.tc : Thread nD τ) UR (StableHlo.after preOps (V0 m d)) : sProp 𝕄) = held (SparseCore.T d) UR (V1 m d) from rfl)) $$ Hheld
  ihave Hh := (BIBase.Entails.of_eq (StableHlo.held_sub_split (T d) callRefs_sub (V1 m d))) $$ Hheld
  icases Hh with ⟨Hcall, Hrest⟩
  ihave Hc := (BIBase.Entails.of_eq (held_call d (V1 m d))) $$ Hcall
  icases Hc with ⟨HD, HY, Ho⟩
  ihave HD := (BIBase.Entails.of_eq (congrArg (fun f => (dLoc d ↦{fullShare} f : sProp 𝕄)) (V1_d m d))) $$ HD
  ihave HY := (BIBase.Entails.of_eq (congrArg (fun f => (yLoc d ↦{fullShare} f : sProp 𝕄)) (V1_y m d))) $$ HY
  ihave Ho := (BIBase.Entails.of_eq (congrArg (fun f => (oLoc d ↦{fullShare} f : sProp 𝕄)) (V1_o m d))) $$ Ho
  ihave HD' := (pointsTo_toks_split fullShare 2) $$ HD
  icases HD' with ⟨HDr, HD⟩
  ihave HY' := (pointsTo_toks_split fullShare 2) $$ HY
  icases HY' with ⟨HYr, HY⟩
  rw [wp_bind]
  iapply ((K (F := F)).wp_run (D (F := F)) 𝒱 (EH := EH) (P := P m) κ d 0) $$ [Hst HD HY Ho Hb HDr HYr Hrest Hts]
  isplitr; · iexact Hctx
  isplitl [Hst]; · iexact Hst
  isplitl [HD HY Ho]
  · rw [st0_eq]
    isplitl [HD]; · iexact HD
    isplitl [HY]; · iexact HY
    iexact Ho
  iintro ⟨Hst, Hdn⟩
  ihave Hdn' := (BIBase.Entails.of_eq (dn0_eq m d)) $$ Hdn
  icases Hdn' with ⟨HD, HY, Ho⟩
  ihave HD := (pointsTo_toks_join fullShare 2) $$ [HDr HD]
  · isplitl [HDr] <;> iassumption
  ihave HY := (pointsTo_toks_join fullShare 2) $$ [HYr HY]
  · isplitl [HYr] <;> iassumption
  ihave Hrest := (BIBase.Entails.of_eq (held_rest m d)) $$ Hrest
  iapply (StableHlo.wp_seq 𝒱 none Set.univ d UR _ (postOps (F := F)) postOps_sub postOps_fresh (V2 m d)) $$ [Hb HD HY Ho Hrest]
  · isplitl [Hb]; · iexact Hb
    rw [StableHlo.held_sub_split (T d) callRefs_sub (V2 m d), held_call, V2_o, V2_of_ne m d (show d' ≠ o' by decide), V2_of_ne m d (show y' ≠ o' by decide),
      V1_d, V1_y]
    isplitl [HD HY Ho]
    · isplitl [HD]; · iexact HD
      isplitl [HY] <;> iassumption
    iexact Hrest
  iintro ⟨Hb, Hheld⟩
  ihave Hheld := (BIBase.Entails.of_eq (show (held (d.tc : Thread nD τ) UR (StableHlo.after postOps (V2 m d)) : sProp 𝕄) = held (SparseCore.T d) UR (V3 m d) from rfl)) $$ Hheld
  ihave Hh := (BIBase.Entails.of_eq (StableHlo.held_sub_split (T d) finRefs_sub (V3 m d))) $$ Hheld
  icases Hh with ⟨Hfin, -⟩
  ihave Hfin := (BIBase.Entails.of_eq ((held_fin d (V3 m d)).trans (by rw [V3_a0, V3_a1, V3_r]))) $$ Hfin
  rw [wp_pure]; imodintro
  isplitl [Hst]; · iexact Hst
  isplitl [Hfin]; · iexact Hfin
  isplitl [Hb] <;> iassumption

def fq (d : Dev nD) (s' : Phys nD τ sig (Elt F)) : Prop :=
  s'.mem.mem (a0Loc d) = m (a0Loc d) ∧ s'.mem.mem (a1Loc d) = m (a1Loc d) ∧ s'.mem.mem (rLoc d) = resK (m (a0Loc d)) (m (a1Loc d))

set_option maxRecDepth 16384 in
theorem hfin (d : Dev nD) (s' : Phys nD τ sig (Elt F)) : iprop(FIN m d ∗ SI s') ⊢ (⌜fq m d s'⌝ : sProp 𝕄) := by
  iintro ⟨⟨H0, H1, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := rLoc d) (I := Finset.univ) (q := fullShare) (f := resK (m (a0Loc d)) (m (a1Loc d)))) $$ [HSI Hr]
  · isplitl [HSI] <;> iassumption
  icases H with %h2
  ipureintro
  exact ⟨funext fun i => h0 i (Finset.mem_univ i), funext fun i => h1 i (Finset.mem_univ i), funext fun i => h2 i (Finset.mem_univ i)⟩

/-! ## The program's run -/

/-- What holds at the end of every run. -/
def QC : PUnit × MemSt nD τ sig (Elt F) → Prop := fun r =>
  (∀ d : Dev nD, r.2.mem (a0Loc d) = m (a0Loc d) ∧ r.2.mem (a1Loc d) = m (a1Loc d)
    ∧ r.2.mem (rLoc d) = resK (m (a0Loc d)) (m (a1Loc d))) ∧ r.2.sem = fun _ => 0

/-- From a memory whose coordinates lie in the map, every run of the program ends with the arguments unchanged, the
    result at `resK` of them and every counter at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Tile

end
-- ==== Proof.Frames.lean ====
/-
  What the preconditions say of the arguments, element by element, and the frames: each program runs, leaves its
  arguments unchanged and ends with every counter at zero.
-/
module

public import proofs.«01_k».proof.Proof.Run
public import proofs.«01_k».proof.Proof.Gen.Kernel
public import proofs.«01_k».proof.Proof.Gen.ReferenceIdeal
public import proofs.«01_k».proof.Proof.Gen.ReferenceIdeal.Run
public import proofs.«01_k».proof.Proof.Gen.Pre_points_in_map
public import proofs.«01_k».proof.Proof.Gen.Pre_finite_map
public import Idealize.ShloMosaic.Lib.ReduceAll
public import Idealize.ShloMosaic.Lib.WordCmp

@[expose] public section

noncomputable section

namespace Cert.Proof

open Idealize.ShloMosaic Idealize.SL.Sem
open Cert.Proof.Trip (wordOf)

instance : Subsingleton (Cert.Pre_points_in_map.S_).Idx := ⟨fun _ _ => funext fun a => a.elim0⟩

section Pre

variable {F : FTy → Type} [FloatOps F]

/-- The reduction over every coordinate is 1 only if each scaled and truncated coordinate is below 256. -/
theorem word_lt_of_reduce (a0 : FVec F Cert.Pre_points_in_map.S128x8192x2 .f32) {u : Shape} (init : u.Idx → BitVec 1) (hu : 0 < u.numel)
    (hr : Cert.Pre_points_in_map.S128x8192x2.ReducesTo [0, 1, 2] Cert.Pre_points_in_map.S_) (p : Cert.Pre_points_in_map.S128x8192x2.Idx → BitVec 1)
    (hp : ∀ i, p i = IntOp.andi (IntOp.cmpi .sge (wordOf (a0 i)) 0#32) (IntOp.cmpi .slt (wordOf (a0 i)) 256#32))
    (j : Cert.Pre_points_in_map.S_.Idx) (e : Host.reduce IntOp.andi p init hr hu j = 1#1) (i : Cert.Pre_points_in_map.S128x8192x2.Idx) :
    (wordOf (a0 i)).toNat < 256 := by
  have h := Host.reduce_andi_all p init hr hu j e i
  rw [hp i, WordCmp.andi_sge_zero_slt_ofNat (w := 32) (k := 256) (by decide)] at h
  exact (WordCmp.ofBool_decide_eq_one_iff _).1 h

/-- `points_in_map`, read at an element. -/
theorem points_in_map_elim {a0 : FVec F Cert.Pre_points_in_map.S128x8192x2 .f32} {a1 : FVec F Cert.Pre_points_in_map.S128x256x256 .f32}
    (h : Cert.Pre_points_in_map.fn a0 a1 = fun _ => 1#1) (i : Cert.Pre_points_in_map.S128x8192x2.Idx) : (wordOf (a0 i)).toNat < 256 := by
  have e := congrFun h (fun a => a.elim0)
  unfold Cert.Pre_points_in_map.fn at e
  exact word_lt_of_reduce a0 _ _ _ _ (fun _ => rfl) _ e i

/-- The first half of `finite_map`, read at an element. -/
theorem finite_map_word {a0 : FVec F Cert.Pre_finite_map.S128x8192x2 .f32} {a1 : FVec F Cert.Pre_finite_map.S128x256x256 .f32}
    (h : Cert.Pre_finite_map.fn a0 a1 = fun _ => 1#1) (i : Cert.Pre_finite_map.S128x8192x2.Idx) : (wordOf (a0 i)).toNat < 256 :=
  word_lt_of_reduce a0 _ _ _ _ (fun _ => rfl) (fun a => a.elim0) (IntOp.andi_eq_one.1 (congrFun h (fun a => a.elim0))).1 i

end Pre

/-- The second half of `finite_map`, read at an element: the map's entry is a real number. -/
theorem finite_map_real {a0 : FVec Ideal Cert.Pre_finite_map.S128x8192x2 .f32} {a1 : FVec Ideal Cert.Pre_finite_map.S128x256x256 .f32}
    (h : Cert.Pre_finite_map.fn a0 a1 = fun _ => 1#1) (i : Cert.Pre_finite_map.S128x256x256.Idx) : ∃ r : ℝ, a1 i = ((r : ℝ) : EReal) := by
  have e := Host.reduce_andi_all _ _ _ _ _ (IntOp.andi_eq_one.1 (congrFun h (fun a => a.elim0))).2 i
  have e' : Ideal.cmp .olt (max (a1 i) (-(a1 i))) (Ideal.ofBits .f32 0x7F800000#32) = 1#1 := e
  have top : Ideal.ofBits .f32 0x7F800000#32 = ⊤ := by simp [Ideal.ofBits, Ideal.ieee]
  rw [top] at e'
  have lt : max (a1 i) (-(a1 i)) < (⊤ : EReal) := (WordCmp.ofBool_decide_eq_one_iff _).1 e'
  obtain ⟨l1, l2⟩ := max_lt_iff.1 lt
  refine ⟨(a1 i).toReal, (EReal.coe_toReal l1.ne ?_).symm⟩
  intro hb
  rw [hb] at l2
  simp at l2

open Cert.Proof.Tile (PreOK run_main)

theorem preOK_kernel {m : (ℓ : Loc Cert.Kernel.nD Cert.Kernel.τ Cert.Kernel.sig) → Buf (Elt Bits) ℓ} (h : Cert.Pre_Kernel m) :
    PreOK (F := Bits) m := fun d i => points_in_map_elim (h d) i

theorem preOK_ideal {m : (ℓ : Loc Cert.KernelIdeal.nD Cert.KernelIdeal.τ Cert.KernelIdeal.sig) → Buf (Elt Ideal) ℓ} (h : Cert.Pre_KernelIdeal m) :
    PreOK (F := Ideal) m := fun d i => points_in_map_elim (h d) i

theorem preOK_finite {m : (ℓ : Loc Cert.KernelIdeal.nD Cert.KernelIdeal.τ Cert.KernelIdeal.sig) → Buf (Elt Ideal) ℓ} (h : Cert.Pre_KernelIdeal_finite_map m) :
    PreOK (F := Ideal) m := fun d i => finite_map_word (h d) i

/-- `Cert.quiescent_Kernel`: the run of the program, read at its arguments and at the counters. -/
theorem frame_kernel : Cert.quiescent_Kernel := fun m ρ h =>
  (θ_run Cert.KernelIdeal.defs _ _).mono (fun _ h => ⟨fun c => ⟨(h.1 c).1, (h.1 c).2.1⟩, h.2⟩)
    (run_main (F := Bits) m ρ (preOK_kernel h))

/-- `Cert.quiescent_KernelIdeal`: the same at the ideal instance. -/
theorem frame_ideal : Cert.quiescent_KernelIdeal := fun m ρ h =>
  (θ_run Cert.KernelIdeal.defs _ _).mono (fun _ h => ⟨fun c => ⟨(h.1 c).1, (h.1 c).2.1⟩, h.2⟩)
    (run_main (F := Ideal) m ρ (preOK_ideal h))

/-- `Cert.quiescent_KernelIdeal_pre_finite_map`: and under the stronger precondition. -/
theorem frame_ideal_finite : Cert.quiescent_KernelIdeal_pre_finite_map := fun m ρ h =>
  (θ_run Cert.KernelIdeal.defs _ _).mono (fun _ h => ⟨fun c => ⟨(h.1 c).1, (h.1 c).2.1⟩, h.2⟩)
    (run_main (F := Ideal) m ρ (preOK_finite h))

/-- The reference declares no semaphore, so its counters are zero whatever it does. -/
theorem frame_ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_reference : Cert.quiescent_ReferenceIdeal := fun m ρ _ => frame_ref_run m ρ
theorem frame_reference_finite : Cert.quiescent_ReferenceIdeal_pre_finite_map := fun m ρ _ => frame_ref_run m ρ

end Cert.Proof

end
-- ==== Proof.RefTerm.lean ====
/-
  The reference's term, stage by stage, and what each stage holds at an index: the entry of the scaled map that each
  point names.
-/
module

public import proofs.«01_k».proof.Proof.Gen.ReferenceIdeal
public import proofs.«01_k».proof.Proof.Gen.ReferenceIdeal.Run
public import Idealize.ShloMosaic.Lib.ReduceAll
public import Idealize.ShloMosaic.Lib.WordCmp
public import Idealize.ShloMosaic.Lib.Pipeline.Value
public import Idealize.ShloMosaic.Lib.ValueIdxCore
public import Idealize.ShloMosaic.Lib.IdealHost

@[expose] public section

noncomputable section

namespace Cert.Proof.RefTerm

open Cert.ReferenceIdeal Cert.ReferenceIdeal.Gen
open Idealize.ShloMosaic Idealize.ShloMosaic.TcCoe Idealize.ShloMosaic.ValueIdx

variable {F : FTy → Type} [FloatOps F]

/-- The coordinates, scaled by 256 and truncated. -/
def words (a0 : FVec F S128x8192x2 .f32) : IVec S128x8192x2 32 :=
  fptosi 32 (mulf a0 (broadcastInDim S128x8192x2 ![] bcast_S_S128x8192x2 (constant S_ .f32 0x43800000#32)))

/-- The columns. -/
def cols (a0 : FVec F S128x8192x2 .f32) : IVec S128x8192 32 :=
  shapeCast S128x8192 (extractStridedSlice S128x8192x1 ![0, 0, 0] (words a0) slices_S128x8192x2_S128x8192x1_0_0_0) shapeCasts_S128x8192x1_S128x8192
/-- The rows. -/
def rows (a0 : FVec F S128x8192x2 .f32) : IVec S128x8192 32 :=
  shapeCast S128x8192 (extractStridedSlice S128x8192x1 ![0, 0, 1] (words a0) slices_S128x8192x2_S128x8192x1_0_0_1) shapeCasts_S128x8192x1_S128x8192

/-- The flat indices, clipped. -/
def flat (a0 : FVec F S128x8192x2 .f32) : IVec S128x8192 32 :=
  minsi (broadcastInDim S128x8192 ![] bcast_S_S128x8192 (id (constantI S_ 32 65535#32)))
    (maxsi (broadcastInDim S128x8192 ![] bcast_S_S128x8192 (id (constantI S_ 32 0#32)))
      (addi (cols a0) (muli (rows a0) (broadcastInDim S128x8192 ![] bcast_S_S128x8192 (constantI S_ 32 256#32)))))

/-- The flat indices, a negative one counted from the end. -/
def wrapped (a0 : FVec F S128x8192x2 .f32) : IVec S128x8192x1 32 :=
  shapeCast S128x8192x1 (select (cmpi .slt (flat a0) (broadcastInDim S128x8192 ![] bcast_S_S128x8192 (constantI S_ 32 0#32)))
    (addi (flat a0) (broadcastInDim S128x8192 ![] bcast_S_S128x8192 (constantI S_ 32 65536#32))) (flat a0)) shapeCasts_S128x8192_S128x8192x1

/-- Whether each index is in range. -/
def inRange (a0 : FVec F S128x8192x2 .f32) : IVec S128x8192 1 :=
  Host.reduce IntOp.andi (andi (cmpi .sge (wrapped a0) (broadcastInDim S128x8192x1 ![] bcast_S_S128x8192x1 (constantI S_ 32 0#32)))
    (cmpi .sle (wrapped a0) (broadcastInDim S128x8192x1 ![0, 1, 2] bcast_S1x1x1_S128x8192x1_0_1_2 (broadcastInDim S1x1x1 ![2] bcast_S1_S1x1x1_2 (constantI S1 32 65535#32)))))
    (constantI S_ 1 1#1) reducesTo_S128x8192x1_S128x8192_d2 h_S_

/-- The scaled map. -/
def scaled (a1 : FVec F S128x256x256 .f32) : FVec F S128x256x256 .f32 :=
  Host.divf (mulf (subf (mulf a1 (broadcastInDim S128x256x256 ![] bcast_S_S128x256x256 (constant S_ .f32 0x43800000#32)))
    (broadcastInDim S128x256x256 ![] bcast_S_S128x256x256 (constant S_ .f32 0x42FE0000#32)))
    (broadcastInDim S128x256x256 ![] bcast_S_S128x256x256 (constant S_ .f32 0x43800000#32)))
    (broadcastInDim S128x256x256 ![] bcast_S_S128x256x256 (constant S_ .f32 0x43000000#32))

/-- The entries taken. -/
def taken (a0 : FVec F S128x8192x2 .f32) (a1 : FVec F S128x256x256 .f32) : FVec F S128x8192 .f32 :=
  select (inRange a0) (Host.gather gather_S128x65536_S128x8192x1_S128x8192_n_1_0_0_1_2_11 (shapeCast S128x65536 (scaled a1) shapeCasts_S128x256x256_S128x65536) (wrapped a0))
    (broadcastInDim S128x8192 ![] bcast_S_S128x8192 (constant S_ .f32 0x7FC00000#32))

/-- The mean over the samples of the means of the squares. -/
def result (a0 : FVec F S128x8192x2 .f32) (a1 : FVec F S128x256x256 .f32) : FVec F S_ .f32 :=
  Host.divf (Host.reduceAdd (Host.divf (Host.reduceAdd (mulf (taken a0 a1) (taken a0 a1)) (constant S_ .f32 0x00000000#32) reducesTo_S128x8192_S128_d1 h_S_)
    (broadcastInDim S128 ![] bcast_S_S128 (constant S_ .f32 0x46000000#32))) (constant S_ .f32 0x00000000#32) reducesTo_S128_S_d0 h_S_) (constant S_ .f32 0x43000000#32)

set_option maxRecDepth 8192 in
/-- The reference's result is those stages. -/
theorem res_eq (m : (ℓ : Loc nD τ sig) → Buf (Elt F) ℓ) (c : Dev nD) :
    Cert.ReferenceIdeal.Value.res_main_v26 m c = result (m ((c.tc : Thread nD τ).loc main_arg0)) (m ((c.tc : Thread nD τ).loc main_arg1)) := rfl

/-! ## Words below 65536 -/

theorem toInt_of_lt {s : BitVec 32} (h : s.toNat < 65536) : s.toInt = s.toNat := BitVec.toInt_eq_toNat_of_lt (by omega)

theorem clip_eq {s : BitVec 32} (h : s.toNat < 65536) : IntOp.minsi 65535#32 (IntOp.maxsi 0#32 s) = s := by
  have e := toInt_of_lt h
  have e1 : IntOp.maxsi 0#32 s = s := by
    unfold IntOp.maxsi
    rw [if_neg]
    rw [BitVec.slt_iff_toInt_lt, e, BitVec.toInt_zero]; omega
  rw [e1]
  unfold IntOp.minsi
  rw [if_neg]
  rw [BitVec.slt_iff_toInt_lt, e]
  show ¬ ((65535 : ℤ) < _)
  omega

theorem flat_word {r c : BitVec 32} (hr : r.toNat < 256) (hc : c.toNat < 256) :
    (IntOp.addi c (IntOp.muli r 256#32)).toNat = 256 * r.toNat + c.toNat := by
  show (c + r * 256#32).toNat = _
  rw [BitVec.toNat_add, BitVec.toNat_mul]
  show (c.toNat + r.toNat * 256 % 2 ^ 32) % 2 ^ 32 = _
  omega

theorem not_neg {s : BitVec 32} (h : s.toNat < 65536) : IntOp.cmpi .slt s 0#32 = 0#1 := by
  rw [WordCmp.cmpi_slt_zero, decide_eq_false (by omega)]; rfl

theorem range_bits {s : BitVec 32} (h : s.toNat < 65536) : IntOp.andi (IntOp.cmpi .sge s 0#32) (IntOp.cmpi .sle s 65535#32) = 1#1 := by
  rw [WordCmp.cmpi_sge_zero, WordCmp.cmpi_sle_eq, toInt_of_lt h, WordCmp.andi_ofBool, decide_eq_true (by omega),
    decide_eq_true (by show (s.toNat : ℤ) ≤ 65535; omega)]
  rfl

/-! ## The stages at an index -/

/-- Every coordinate, scaled and truncated, is below 256. -/
def Small (a0 : FVec F S128x8192x2 .f32) : Prop := ∀ i, (words a0 i).toNat < 256

theorem cols_apply (a0 : FVec F S128x8192x2 .f32) (b : Fin 128) (p : Fin 8192) : cols a0 (ix2 b p) = words a0 (ix3 b p (0 : Fin 2)) := by
  unfold cols
  rw [shapeCast_apply _ _ (ix2 b p) (ix3 b p (0 : Fin 1)) (by
    rw [Shape.rowMajor_val_three, Shape.rowMajor_val_two]
    show (b.val * 8192 + p.val) * 1 + 0 = b.val * 8192 + p.val
    omega)]
  exact extractStridedSlice_apply _ _ _ _ _ (by
    intro a; match a with | ⟨0, _⟩ => exact (Nat.zero_add _).symm | ⟨1, _⟩ => exact (Nat.zero_add _).symm | ⟨2, _⟩ => rfl)

theorem rows_apply (a0 : FVec F S128x8192x2 .f32) (b : Fin 128) (p : Fin 8192) : rows a0 (ix2 b p) = words a0 (ix3 b p (1 : Fin 2)) := by
  unfold rows
  rw [shapeCast_apply _ _ (ix2 b p) (ix3 b p (0 : Fin 1)) (by
    rw [Shape.rowMajor_val_three, Shape.rowMajor_val_two]
    show (b.val * 8192 + p.val) * 1 + 0 = b.val * 8192 + p.val
    omega)]
  exact extractStridedSlice_apply _ _ _ _ _ (by
    intro a; match a with | ⟨0, _⟩ => exact (Nat.zero_add _).symm | ⟨1, _⟩ => exact (Nat.zero_add _).symm | ⟨2, _⟩ => rfl)

/-- The flat index as a natural. -/
theorem flat_toNat {a0 : FVec F S128x8192x2 .f32} (h : Small a0) (b : Fin 128) (p : Fin 8192) :
    (flat a0 (ix2 b p)).toNat = 256 * (words a0 (ix3 b p (1 : Fin 2))).toNat + (words a0 (ix3 b p (0 : Fin 2))).toNat := by
  have hr := h (ix3 b p (1 : Fin 2))
  have hc := h (ix3 b p (0 : Fin 2))
  have e := flat_word hr hc
  show (IntOp.minsi 65535#32 (IntOp.maxsi 0#32 (IntOp.addi (cols a0 (ix2 b p)) (IntOp.muli (rows a0 (ix2 b p)) 256#32)))).toNat = _
  rw [cols_apply, rows_apply, clip_eq (by rw [e]; omega), e]

theorem flat_lt {a0 : FVec F S128x8192x2 .f32} (h : Small a0) (b : Fin 128) (p : Fin 8192) : (flat a0 (ix2 b p)).toNat < 65536 := by
  have hr := h (ix3 b p (1 : Fin 2))
  have hc := h (ix3 b p (0 : Fin 2))
  rw [flat_toNat h]; omega

theorem wrapped_apply {a0 : FVec F S128x8192x2 .f32} (h : Small a0) (b : Fin 128) (p : Fin 8192) (z : Fin 1) :
    wrapped a0 (ix3 b p z) = flat a0 (ix2 b p) := by
  unfold wrapped
  rw [shapeCast_apply _ _ (ix3 b p z) (ix2 b p) (by
    rw [Shape.rowMajor_val_three, Shape.rowMajor_val_two]
    show b.val * 8192 + p.val = (b.val * 8192 + p.val) * 1 + z.val
    omega)]
  show Scalar.select (IntOp.cmpi .slt (flat a0 (ix2 b p)) 0#32) _ (flat a0 (ix2 b p)) = _
  rw [not_neg (flat_lt h b p)]
  rfl

theorem inRange_apply {a0 : FVec F S128x8192x2 .f32} (h : Small a0) (j : S128x8192.Idx) : inRange a0 j = 1#1 := by
  unfold inRange
  refine Host.reduce_andi_one _ _ _ _ j rfl fun i => ?_
  show IntOp.andi (IntOp.cmpi .sge (wrapped a0 i) 0#32) (IntOp.cmpi .sle (wrapped a0 i) 65535#32) = 1#1
  have e : wrapped a0 i = flat a0 (ix2 (i 0) (i 1)) := (congrArg (wrapped a0) (eq_ix3 i)).trans (wrapped_apply h (i 0) (i 1) (i 2))
  rw [e]
  exact range_bits (flat_lt h _ _)

/-- The gather's dimension numbers. -/
abbrev dims := gather_S128x65536_S128x8192x1_S128x8192_n_1_0_0_1_2_11

/-- The gather along the flat map, at an index. -/
theorem gather_apply {α : Type} (x : S128x65536.Idx → α) (idx : IVec S128x8192x1 32) (b : Fin 128) (p : Fin 8192) (q : Fin 65536)
    (hq : (idx (ix3 b p (0 : Fin 1))).toInt.toNat = q.val) :
    Host.gather gather_S128x65536_S128x8192x1_S128x8192_n_1_0_0_1_2_11 x idx (ix2 b p) = x (ix2 b q) := by
  unfold Host.gather
  refine congrArg x (funext fun a => Fin.ext ?_)
  match a with
  | ⟨0, _⟩ =>
    have hk : (0 : Fin 2) ∉ dims.sKept := by rw [GatherDims.mem_sKept]; decide
    have hb : (0 : Fin 2) ∈ dims.operandBatchingDims := by decide
    show dims.start (ix2 b p) idx 0 + dims.batchCoord (ix2 b p) 0 + dims.offCoord (ix2 b p) 0 = b.val
    rw [GatherDims.start_batching _ _ _ _ hb, GatherDims.offCoord_eq_zero _ _ _ hk]
    unfold GatherDims.batchCoord
    rw [dif_pos hb, Nat.zero_add, Nat.add_zero]
    rfl
  | ⟨1, _⟩ =>
    have hk : (1 : Fin 2) ∉ dims.sKept := by rw [GatherDims.mem_sKept]; decide
    have hb : (1 : Fin 2) ∉ dims.operandBatchingDims := by decide
    have hm : (1 : Fin 2) ∈ dims.startIndexMap := by decide
    have hi : ∀ c : Fin dims.startIndexMap.length, dims.siIdx (ix2 b p) c = (ix3 b p (0 : Fin 1) : S128x8192x1.Idx) := fun c => by
      funext a
      match a with
      | ⟨0, _⟩ => rfl
      | ⟨1, _⟩ => rfl
      | ⟨2, _⟩ => exact Subsingleton.elim (α := Fin 1) _ _
    show dims.start (ix2 b p) idx 1 + dims.batchCoord (ix2 b p) 1 + dims.offCoord (ix2 b p) 1 = q.val
    rw [GatherDims.batchCoord_eq_zero _ _ _ hb, GatherDims.offCoord_eq_zero _ _ _ hk]
    unfold GatherDims.start
    rw [dif_pos hm, hi, hq]
    show min q.val 65535 = q.val
    omega

/-- The entries taken, at an index. -/
theorem taken_apply {a0 : FVec F S128x8192x2 .f32} (h : Small a0) (a1 : FVec F S128x256x256 .f32) (b : Fin 128) (p : Fin 8192) :
    taken a0 a1 (ix2 b p) = scaled a1 (ix3 b (⟨(words a0 (ix3 b p (1 : Fin 2))).toNat, h _⟩ : Fin 256) (⟨(words a0 (ix3 b p (0 : Fin 2))).toNat, h _⟩ : Fin 256)) := by
  have hr := h (ix3 b p (1 : Fin 2))
  have hc := h (ix3 b p (0 : Fin 2))
  unfold taken
  show Scalar.select (inRange a0 (ix2 b p)) _ _ = _
  rw [inRange_apply h]
  rw [WordCmp.select_one, gather_apply _ _ b p (⟨(flat a0 (ix2 b p)).toNat, flat_lt h b p⟩ : Fin 65536) (by
    rw [wrapped_apply h, toInt_of_lt (flat_lt h b p)]; rfl)]
  rw [shapeCast_apply _ _ _ (ix3 b (⟨(words a0 (ix3 b p (1 : Fin 2))).toNat, h _⟩ : Fin 256) (⟨(words a0 (ix3 b p (0 : Fin 2))).toNat, h _⟩ : Fin 256)) (by
    rw [Shape.rowMajor_val_three, Shape.rowMajor_val_two]
    show (b.val * 256 + (words a0 (ix3 b p (1 : Fin 2))).toNat) * 256 + (words a0 (ix3 b p (0 : Fin 2))).toNat = b.val * 65536 + (flat a0 (ix2 b p)).toNat
    rw [flat_toNat h]; omega)]

end Cert.Proof.RefTerm

end
-- ==== Proof.Layout.lean ====
/-
  Which element of its arguments each lane of each trip reads: lane `x` of trip `k` of sample `n` gathers the map's entry
  that point `16 k + x` of the sample names.
-/
module

public import proofs.«01_k».proof.Proof.Run

@[expose] public section

noncomputable section

namespace Cert.Proof.Layout

open Cert.KernelIdeal Cert.KernelIdeal.Gen Cert.Proof.Trip
open Cert.Proof.Tile (yT dT)
open Idealize.ShloMosaic Idealize.ShloMosaic.ValueIdx

/-- Two indices of three coordinates are equal when the coordinates are, as naturals. -/
theorem ix3_ext {n0 n1 n2 : ℕ} {a a' : Fin n0} {b b' : Fin n1} {c c' : Fin n2} (ha : a.val = a'.val) (hb : b.val = b'.val)
    (hc : c.val = c'.val) : (ix3 a b c : (⟨3, ![n0, n1, n2]⟩ : Shape).Idx) = ix3 a' b' c' := by
  rw [Fin.ext ha, Fin.ext hb, Fin.ext hc]

section

variable {α : Type}

/-- The map's entry at a row and a column given as naturals, each taken modulo 256. -/
def at3 (a1 : S128x256x256.Idx → α) (b : Fin 128) (r c : ℕ) : α :=
  a1 (ix3 b (⟨r % 256, Nat.mod_lt _ (by decide)⟩ : Fin 256) (⟨c % 256, Nat.mod_lt _ (by decide)⟩ : Fin 256))

end

variable {F : FTy → Type} [FloatOps F]

/-- The coordinates' array, at an index: row `2 j + t` of a sample is coordinate `t` of its points from `128 j` on. -/
theorem yT_apply (a : S128x8192x2.Idx → F .f32) (n r c : Fin 128) (p : Fin 8192) (t : Fin 2) (hp : p.val = 128 * (r.val / 2) + c.val)
    (ht : t.val = r.val % 2) : yT a (ix3 n r c) = a (ix3 n p t) := by
  have hr := r.isLt
  unfold yT
  rw [shapeCast_apply _ _ (ix3 n r c) (ix4 n (⟨r.val / 2, by omega⟩ : Fin 64) t c) (by
    rw [Shape.rowMajor_val_four, Shape.rowMajor_val_three]
    show ((n.val * 64 + r.val / 2) * 2 + t.val) * 128 + c.val = (n.val * 128 + r.val) * 128 + c.val
    omega)]
  rw [transpose_apply _ _ _ _ (ix4 n (⟨r.val / 2, by omega⟩ : Fin 64) c t) (by
    intro b; match b with | ⟨0, _⟩ => rfl | ⟨1, _⟩ => rfl | ⟨2, _⟩ => rfl | ⟨3, _⟩ => rfl)]
  rw [shapeCast_apply _ _ _ (ix3 n p t) (by
    rw [Shape.rowMajor_val_four, Shape.rowMajor_val_three]
    show (n.val * 8192 + p.val) * 2 + t.val = ((n.val * 64 + r.val / 2) * 128 + c.val) * 2 + t.val
    omega)]

/-- The maps' array, at an index: row `16 i + 8 h + s`, column `l`, is the map's entry at row `8 i + s`, column `128 h + l`. -/
theorem dT_apply (a : S128x256x256.Idx → F .f32) (n : Fin 128) (q : Fin 512) (l : Fin 128) (r c : Fin 256)
    (hq : q.val = 16 * (r.val / 8) + r.val % 8 + 8 * (c.val / 128)) (hl : l.val = c.val % 128) : dT a (ix3 n q l) = a (ix3 n r c) := by
  have hr := r.isLt
  have hc := c.isLt
  unfold dT
  rw [shapeCast_apply _ _ (ix3 n q l) (ix5 n (⟨r.val / 8, by omega⟩ : Fin 32) (⟨c.val / 128, by omega⟩ : Fin 2) (⟨r.val % 8, by omega⟩ : Fin 8) l) (by
    rw [Shape.rowMajor_val_five, Shape.rowMajor_val_three]
    show (((n.val * 32 + r.val / 8) * 2 + c.val / 128) * 8 + r.val % 8) * 128 + l.val = (n.val * 512 + q.val) * 128 + l.val
    omega)]
  rw [transpose_apply _ _ _ _ (ix5 n (⟨r.val / 8, by omega⟩ : Fin 32) (⟨r.val % 8, by omega⟩ : Fin 8) (⟨c.val / 128, by omega⟩ : Fin 2) l) (by
    intro b; match b with | ⟨0, _⟩ => rfl | ⟨1, _⟩ => rfl | ⟨2, _⟩ => rfl | ⟨3, _⟩ => rfl | ⟨4, _⟩ => rfl)]
  rw [shapeCast_apply _ _ _ (ix3 n r c) (by
    rw [Shape.rowMajor_val_five, Shape.rowMajor_val_three]
    show (n.val * 256 + r.val) * 256 + c.val = (((n.val * 32 + r.val / 8) * 8 + r.val % 8) * 2 + c.val / 128) * 128 + l.val
    omega)]

/-- The entry of the map that a point names: its second coordinate is the row, its first the column. -/
def entry {α : Type} (a0 : S128x8192x2.Idx → F .f32) (a1 : S128x256x256.Idx → α) (b : Fin 128) (p : Fin 8192) : α :=
  at3 a1 b (wordOf (a0 (ix3 b p (1 : Fin 2)))).toNat (wordOf (a0 (ix3 b p (0 : Fin 2)))).toNat

/-- The row word of trip `k`, lane `x`. -/
theorem rowW_eq (a0 : S128x8192x2.Idx → F .f32) (n k : ℕ) (hk : k < 512) (x : S16.Idx) :
    rowW (yB (yT a0) n) k x = wordOf (a0 (ix3 (⟨n % 128, Nat.mod_lt _ (by decide)⟩ : Fin 128) (⟨16 * k + (x 0).val, by have : (x 0).val < 16 := (x 0).isLt; omega⟩ : Fin 8192) (1 : Fin 2))) := by
  have hx : (x 0).val < 16 := (x 0).isLt
  unfold rowW yRow yB
  exact congrArg wordOf (yT_apply a0 _ _ _ _ _ (by show 16 * k + (x 0).val = 128 * ((2 * (k / 8) + 1) % 128 / 2) + (16 * (k % 8) + (x 0).val) % 128; omega)
    (by show 1 = (2 * (k / 8) + 1) % 128 % 2; omega))

/-- The column word of trip `k`, lane `x`. -/
theorem colW_eq (a0 : S128x8192x2.Idx → F .f32) (n k : ℕ) (hk : k < 512) (x : S16.Idx) :
    colW (yB (yT a0) n) k x = wordOf (a0 (ix3 (⟨n % 128, Nat.mod_lt _ (by decide)⟩ : Fin 128) (⟨16 * k + (x 0).val, by have : (x 0).val < 16 := (x 0).isLt; omega⟩ : Fin 8192) (0 : Fin 2))) := by
  have hx : (x 0).val < 16 := (x 0).isLt
  unfold colW yRow yB
  exact congrArg wordOf (yT_apply a0 _ _ _ _ _ (by show 16 * k + (x 0).val = 128 * ((2 * (k / 8)) % 128 / 2) + (16 * (k % 8) + (x 0).val) % 128; omega)
    (by show 0 = (2 * (k / 8)) % 128 % 2; omega))

/-- What lane `x` of trip `k` of sample `n` gathers. -/
theorem got_eq (a0 : S128x8192x2.Idx → F .f32) (a1 : S128x256x256.Idx → F .f32) (h : ∀ i, (wordOf (a0 i)).toNat < 256) (n k : ℕ)
    (hk : k < 512) (x : S16.Idx) :
    got (dB (dT a1) n) (yB (yT a0) n) k x
      = entry a0 a1 (⟨n % 128, Nat.mod_lt _ (by decide)⟩ : Fin 128) (⟨16 * k + (x 0).val, by have : (x 0).val < 16 := (x 0).isLt; omega⟩ : Fin 8192) := by
  have hin : InMap (yB (yT a0) n) := inMap_yB (fun j => by obtain ⟨i, e⟩ := Cert.Proof.Tile.yT_mem a0 j; rw [e]; exact h i) n
  have hq := qW_toNat hin k x
  have hl := lW_toNat hin k x
  rw [rowW_eq a0 n k hk x, colW_eq a0 n k hk x] at hq
  rw [colW_eq a0 n k hk x] at hl
  have h1 := h (ix3 (⟨n % 128, Nat.mod_lt _ (by decide)⟩ : Fin 128) (⟨16 * k + (x 0).val, by have : (x 0).val < 16 := (x 0).isLt; omega⟩ : Fin 8192) (1 : Fin 2))
  have h0 := h (ix3 (⟨n % 128, Nat.mod_lt _ (by decide)⟩ : Fin 128) (⟨16 * k + (x 0).val, by have : (x 0).val < 16 := (x 0).isLt; omega⟩ : Fin 8192) (0 : Fin 2))
  unfold got dB entry at3
  refine dT_apply a1 _ _ _ _ _ ?_ ?_
  · show (qW (yB (yT a0) n) k x).toNat % 512 = _
    rw [hq]
    show _ = 16 * (_ % 256 / 8) + _ % 256 % 8 + 8 * (_ % 256 / 128)
    omega
  · show (lW (yB (yT a0) n) k x).toNat % 128 = _
    rw [hl]
    show _ = _ % 256 % 128
    omega

end Cert.Proof.Layout

end
-- ==== Proof.KernelValue.lean ====
/-
  The program's result over the extended reals, when the map is real: the mean over all points of a quadratic in the
  entries that they name.
-/
module

public import proofs.«01_k».proof.Proof.Layout
public import Idealize.ShloMosaic.Lib.IdealHost
public import Idealize.ShloMosaic.Lib.Pointwise.Reduce
public import Idealize.ShloMosaic.PureOps.Ideal.Laws

@[expose] public section

noncomputable section

namespace Cert.Proof.KernelValue

open Cert.KernelIdeal Cert.KernelIdeal.Gen Cert.Proof.Trip Cert.Proof.Layout
open Cert.Proof.Tile (yT dT resK)
open Idealize.ShloMosaic Idealize.ShloMosaic.ValueIdx

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `a * c` numbers, in `a` runs of `c`. -/
theorem sum_range_mul {M : Type} [AddCommMonoid M] (f : ℕ → M) (a c : ℕ) :
    ∑ x ∈ Finset.range (a * c), f x = ∑ i ∈ Finset.range a, ∑ j ∈ Finset.range c, f (c * i + j) := by
  induction a with
  | zero => simp
  | succ a ih => rw [Nat.succ_mul, Finset.sum_range_add, ih, Finset.sum_range_succ, Nat.mul_comm a c]

theorem bits_262144 : Ideal.ofBits .f32 0x48800000#32 = ((262144 : ℝ) : EReal) := by
  simp [Ideal.ofBits, Ideal.ieee, -EReal.coe_mul]; norm_num
theorem bits_260096 : Ideal.ofBits .f32 0x487E0000#32 = ((260096 : ℝ) : EReal) := by
  simp [Ideal.ofBits, Ideal.ieee, -EReal.coe_mul]; norm_num
theorem bits_132128768 : Ideal.ofBits .f32 0x4CFC0400#32 = ((132128768 : ℝ) : EReal) := by
  simp [Ideal.ofBits, Ideal.ieee, -EReal.coe_mul]; norm_num
theorem bits_inv : Ideal.ofBits .f32 0x35800000#32 = (((1 : ℝ) / 1048576 : ℝ) : EReal) := by
  simp [Ideal.ofBits, Ideal.ieee, -EReal.coe_mul]; norm_num

/-! ## The sums of a tile -/

variable (a0 : S128x8192x2.Idx → Ideal .f32) (G : S128x256x256.Idx → ℝ)

/-- The entry that point `p` of sample `n` names, the two numbers taken modulo their ranges. -/
def γ (n p : ℕ) : ℝ := entry a0 G (⟨n % 128, Nat.mod_lt _ (by decide)⟩ : Fin 128) (⟨p % 8192, Nat.mod_lt _ (by decide)⟩ : Fin 8192)

/-- The map as extended reals. -/
def mapE : S128x256x256.Idx → Ideal .f32 := fun i => ((G i : ℝ) : EReal)

variable {a0 G}

theorem got_real (h : ∀ i, (wordOf (a0 i)).toNat < 256) (n k : ℕ) (hk : k < 512) (x : S16.Idx) :
    got (dB (dT (mapE G)) n) (yB (yT a0) n) k x = ((γ a0 G n (16 * k + (x 0).val) : ℝ) : EReal) := by
  rw [got_eq a0 (mapE G) h n k hk x]
  have hx : (x 0).val < 16 := (x 0).isLt
  have hm : (16 * k + (x 0).val) % 8192 = 16 * k + (x 0).val := Nat.mod_eq_of_lt (by omega)
  unfold γ
  rw [show (⟨(16 * k + (x 0).val) % 8192, Nat.mod_lt _ (by decide)⟩ : Fin 8192) = ⟨16 * k + (x 0).val, by omega⟩ from Fin.ext hm]
  rfl

/-- The two sums after `k` trips over sample `n`, from real ones. -/
theorem runV_real (h : ∀ i, (wordOf (a0 i)).toNat < 256) (n : ℕ) (a : FVec Ideal S16 .f32 × FVec Ideal S16 .f32) (A B : S16.Idx → ℝ)
    (hA : ∀ x, a.1 x = ((A x : ℝ) : EReal)) (hB : ∀ x, a.2 x = ((B x : ℝ) : EReal)) (k : ℕ) (hk : k ≤ 512) :
    (∀ x, (runV (dB (dT (mapE G)) n) (yB (yT a0) n) a k).1 x
        = ((A x + ∑ i ∈ Finset.range k, γ a0 G n (16 * i + (x 0).val) * γ a0 G n (16 * i + (x 0).val) : ℝ) : EReal))
      ∧ (∀ x, (runV (dB (dT (mapE G)) n) (yB (yT a0) n) a k).2 x
        = ((B x + ∑ i ∈ Finset.range k, γ a0 G n (16 * i + (x 0).val) : ℝ) : EReal)) := by
  induction k with
  | zero => exact ⟨fun x => by simpa [runV] using hA x, fun x => by simpa [runV] using hB x⟩
  | succ k ih =>
    obtain ⟨i1, i2⟩ := ih (by omega)
    have g := got_real (G := G) h n k (by omega)
    refine ⟨fun x => ?_, fun x => ?_⟩
    · show (runV (dB (dT (mapE G)) n) (yB (yT a0) n) a k).1 x
        + got (dB (dT (mapE G)) n) (yB (yT a0) n) k x * got (dB (dT (mapE G)) n) (yB (yT a0) n) k x = _
      rw [i1 x, g x, Finset.sum_range_succ, ← EReal.coe_mul, ← EReal.coe_add, add_assoc]
    · show (runV (dB (dT (mapE G)) n) (yB (yT a0) n) a k).2 x + got (dB (dT (mapE G)) n) (yB (yT a0) n) k x = _
      rw [i2 x, g x, Finset.sum_range_succ, ← EReal.coe_add, add_assoc]

/-- The two sums after `e` samples, from sample `b` on. -/
theorem sums_real (h : ∀ i, (wordOf (a0 i)).toNat < 256) (b e : ℕ) :
    (∀ x, (sums (dT (mapE G)) (yT a0) b e).1 x
        = ((∑ j ∈ Finset.range e, ∑ i ∈ Finset.range 512, γ a0 G (b + j) (16 * i + (x 0).val) * γ a0 G (b + j) (16 * i + (x 0).val) : ℝ) : EReal))
      ∧ (∀ x, (sums (dT (mapE G)) (yT a0) b e).2 x
        = ((∑ j ∈ Finset.range e, ∑ i ∈ Finset.range 512, γ a0 G (b + j) (16 * i + (x 0).val) : ℝ) : EReal)) := by
  induction e with
  | zero =>
    have z : ∀ x : S16.Idx, (k0_pay9 (F := Ideal)) x = ((0 : ℝ) : EReal) := fun x => by
      show Ideal.ofBits .f32 0x00000000#32 = _
      rw [Idealize.ShloMosaic.Ideal.ofBits_zero_f32]; rfl
    exact ⟨fun x => by rw [Finset.sum_range_zero]; exact z x, fun x => by rw [Finset.sum_range_zero]; exact z x⟩
  | succ e ih =>
    have r := runV_real (G := G) h (b + e) (sums (dT (mapE G)) (yT a0) b e) _ _ ih.1 ih.2 512 (le_refl _)
    refine ⟨fun x => ?_, fun x => ?_⟩
    · rw [Finset.sum_range_succ]; exact r.1 x
    · rw [Finset.sum_range_succ]; exact r.2 x

/-- What the reference takes the mean of, at the entry `g`. -/
def quad (g : ℝ) : ℝ := 262144 * (g * g) - 260096 * g + 64516

/-- Lane `l` of tile `w`'s row: the quadratic summed over its 2048 points. -/
theorem outRow_real (h : ∀ i, (wordOf (a0 i)).toNat < 256) (w : ℕ) (x : S16.Idx) :
    outRow (dT (mapE G)) (yT a0) w x
      = ((∑ j ∈ Finset.range 4, ∑ i ∈ Finset.range 512, quad (γ a0 G (4 * w + j) (16 * i + (x 0).val)) : ℝ) : EReal) := by
  obtain ⟨s1, s2⟩ := sums_real (G := G) h (4 * w) 4
  show Ideal.ofBits .f32 0x48800000#32 * (sums (dT (mapE G)) (yT a0) (4 * w) 4).1 x
    - Ideal.ofBits .f32 0x487E0000#32 * (sums (dT (mapE G)) (yT a0) (4 * w) 4).2 x + Ideal.ofBits .f32 0x4CFC0400#32 = _
  rw [s1 x, s2 x, bits_262144, bits_260096, bits_132128768, ← EReal.coe_mul, ← EReal.coe_mul, ← EReal.coe_sub, ← EReal.coe_add]
  congr 1
  unfold quad
  simp only [Finset.sum_add_distrib, Finset.sum_sub_distrib, ← Finset.mul_sum, Finset.sum_const, Finset.card_range, nsmul_eq_mul]
  norm_num

/-- The sums of the tiles' lanes are the sum over every point of every sample. -/
theorem regroup (f : ℕ → ℕ → ℝ) :
    ∑ w : Fin 32, ∑ l : Fin 16, ∑ j ∈ Finset.range 4, ∑ i ∈ Finset.range 512, f (4 * w.val + j) (16 * i + l.val)
      = ∑ b ∈ Finset.range 128, ∑ p ∈ Finset.range 8192, f b p := by
  rw [show (128 : ℕ) = 32 * 4 from rfl, sum_range_mul, ← Finset.sum_range (fun w => ∑ l : Fin 16, ∑ j ∈ Finset.range 4, ∑ i ∈ Finset.range 512, f (4 * w + j) (16 * i + l.val))]
  refine Finset.sum_congr rfl fun w _ => ?_
  rw [Finset.sum_comm]
  refine Finset.sum_congr rfl fun j _ => ?_
  rw [show (8192 : ℕ) = 512 * 16 from rfl, sum_range_mul, ← Finset.sum_range (fun l => ∑ i ∈ Finset.range 512, f (4 * w + j) (16 * i + l)), Finset.sum_comm]

/-- The same, as an element of the result's array. -/
theorem outV_real (h : ∀ i, (wordOf (a0 i)).toNat < 256) (w : Fin 32) (l : Fin 16) :
    outV (dT (mapE G)) (yT a0) (ValueIdx.ix2 w l)
      = ((∑ j ∈ Finset.range 4, ∑ i ∈ Finset.range 512, quad (γ a0 G (4 * w.val + j) (16 * i + l.val)) : ℝ) : EReal) :=
  outRow_real h w.val (ValueIdx.ix1 l)

/-- The sum of the result's array. -/
theorem total_real (h : ∀ i, (wordOf (a0 i)).toNat < 256) (j : S_.Idx) :
    Ideal.hostReduceAdd reducesTo_S32x16_S_d0_1 (outV (dT (mapE G)) (yT a0)) 0 j
      = ((∑ b ∈ Finset.range 128, ∑ p ∈ Finset.range 8192, quad (γ a0 G b p) : ℝ) : EReal) := by
  rw [Ideal.hostReduceAdd_r2_a01, zero_add, ← regroup (fun b p => quad (γ a0 G b p)), coe_sum]
  refine Finset.sum_congr rfl fun w _ => ?_
  rw [coe_sum]
  exact Finset.sum_congr rfl fun l _ => outV_real h w l

/-- The program's result, when the map is real. -/
theorem resK_real (h : ∀ i, (wordOf (a0 i)).toNat < 256) (j : S_.Idx) :
    resK a0 (mapE G) j
      = (((∑ b ∈ Finset.range 128, ∑ p ∈ Finset.range 8192, quad (γ a0 G b p)) * (1 / 1048576) : ℝ) : EReal) := by
  unfold resK
  rw [ValueIdx.mulf_apply, ValueIdx.hostReduceAdd_apply, ValueIdx.constant_apply, ValueIdx.constant_apply, Ideal.ofBits_zero_f32, total_real h j, bits_inv,
    ← EReal.coe_mul]

end Cert.Proof.KernelValue

end
-- ==== Proof.RefValue.lean ====
/-
  The reference's value over the reals, when the map is real: the mean of the squares, each square a quadratic of the
  entry of the map.
-/
module

public import proofs.«01_k».proof.Proof.RefTerm
public import proofs.«01_k».proof.Proof.KernelValue

@[expose] public section

noncomputable section

namespace Cert.Proof.RefValue

open Cert.ReferenceIdeal Cert.ReferenceIdeal.Gen Cert.Proof.RefTerm
open Cert.Proof.Trip (wordOf)
open Cert.Proof.Layout (entry at3)
open Cert.Proof.KernelValue (coe_sum γ mapE quad resK_real)
open Idealize.ShloMosaic Idealize.ShloMosaic.ValueIdx

theorem bits_256 : Ideal.ofBits .f32 0x43800000#32 = ((256 : ℝ) : EReal) := by
  simp [Ideal.ofBits, Ideal.ieee, -EReal.coe_mul]; norm_num
theorem bits_127 : Ideal.ofBits .f32 0x42FE0000#32 = ((127 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_8192 : Ideal.ofBits .f32 0x46000000#32 = ((8192 : ℝ) : EReal) := by
  simp [Ideal.ofBits, Ideal.ieee, -EReal.coe_mul]; norm_num

/-- Division of reals. -/
theorem div_real (x y : ℝ) (hy : y ≠ 0) : Idealize.ShloMosaic.Ideal.div ((x : ℝ) : EReal) ((y : ℝ) : EReal) = ((x / y : ℝ) : EReal) := by
  unfold Idealize.ShloMosaic.Ideal.div
  rw [if_neg (by simpa using hy), EReal.coe_div, EReal.div_eq_inv_mul, mul_comm]

variable {a0 : S128x8192x2.Idx → Ideal .f32} {G : S128x256x256.Idx → ℝ}

/-- The scaled map, at an index. -/
theorem scaled_real (i : S128x256x256.Idx) : scaled (F := Ideal) (mapE G) i = (((G i * 256 - 127) * 256 / 128 : ℝ) : EReal) := by
  unfold scaled
  rw [ValueIdx.hostDivf_apply, ValueIdx.mulf_apply, ValueIdx.subf_apply, ValueIdx.mulf_apply, broadcastInDim_scalar_apply, broadcastInDim_scalar_apply,
    broadcastInDim_scalar_apply, ValueIdx.constant_apply, ValueIdx.constant_apply, ValueIdx.constant_apply, bits_256, bits_127, bits_128]
  unfold mapE
  rw [← EReal.coe_mul, ← EReal.coe_sub, ← EReal.coe_mul, div_real _ _ (by norm_num)]

/-- The words of the reference are the words of the program. -/
theorem small (h : ∀ i, (wordOf (a0 i)).toNat < 256) : Small (F := Ideal) a0 := h

/-- The entry taken for point `p` of sample `b`. -/
theorem taken_real (h : ∀ i, (wordOf (a0 i)).toNat < 256) (b : Fin 128) (p : Fin 8192) :
    taken (F := Ideal) a0 (mapE G) (ValueIdx.ix2 b p) = (((γ a0 G b.val p.val * 256 - 127) * 256 / 128 : ℝ) : EReal) := by
  rw [taken_apply (small h), scaled_real]
  have e : γ a0 G b.val p.val = G (ValueIdx.ix3 b (⟨(wordOf (a0 (ValueIdx.ix3 b p (1 : Fin 2)))).toNat, h _⟩ : Fin 256) (⟨(wordOf (a0 (ValueIdx.ix3 b p (0 : Fin 2)))).toNat, h _⟩ : Fin 256)) := by
    unfold γ
    rw [show (⟨b.val % 128, Nat.mod_lt _ (by decide)⟩ : Fin 128) = b from Fin.ext (Nat.mod_eq_of_lt b.isLt),
      show (⟨p.val % 8192, Nat.mod_lt _ (by decide)⟩ : Fin 8192) = p from Fin.ext (Nat.mod_eq_of_lt p.isLt)]
    unfold entry at3
    rw [show (⟨(wordOf (a0 (ValueIdx.ix3 b p (1 : Fin 2)))).toNat % 256, Nat.mod_lt _ (by decide)⟩ : Fin 256) = ⟨(wordOf (a0 (ValueIdx.ix3 b p (1 : Fin 2)))).toNat, h _⟩ from
        Fin.ext (Nat.mod_eq_of_lt (h _)),
      show (⟨(wordOf (a0 (ValueIdx.ix3 b p (0 : Fin 2)))).toNat % 256, Nat.mod_lt _ (by decide)⟩ : Fin 256) = ⟨(wordOf (a0 (ValueIdx.ix3 b p (0 : Fin 2)))).toNat, h _⟩ from
        Fin.ext (Nat.mod_eq_of_lt (h _))]
  rw [e]
  rfl

/-- Its square is the quadratic of the entry. -/
theorem square_real (h : ∀ i, (wordOf (a0 i)).toNat < 256) (b : Fin 128) (p : Fin 8192) :
    mulf (F := Ideal) (taken a0 (mapE G)) (taken a0 (mapE G)) (ValueIdx.ix2 b p) = ((quad (γ a0 G b.val p.val) : ℝ) : EReal) := by
  rw [ValueIdx.mulf_apply, taken_real h, ← EReal.coe_mul]
  refine congrArg _ ?_
  unfold quad
  ring

/-- The sum of the squares of a sample. -/
theorem sample_real (h : ∀ i, (wordOf (a0 i)).toNat < 256) (j : S128.Idx) :
    Host.reduceAdd (F := Ideal) (mulf (taken a0 (mapE G)) (taken a0 (mapE G))) (constant S_ .f32 0x00000000#32) reducesTo_S128x8192_S128_d1 h_S_ j
      = ((∑ p ∈ Finset.range 8192, quad (γ a0 G (j 0).val p) : ℝ) : EReal) := by
  rw [ValueIdx.hostReduceAdd_apply, ValueIdx.constant_apply, Ideal.ofBits_zero_f32, Ideal.hostReduceAdd_r2_a1, zero_add, Finset.sum_range, coe_sum]
  exact Finset.sum_congr rfl fun p _ => square_real h (⟨(j 0).val, (j 0).isLt⟩ : Fin 128) p

/-- The reference's result, when the map is real. -/
theorem result_real (h : ∀ i, (wordOf (a0 i)).toNat < 256) (j : S_.Idx) :
    result (F := Ideal) a0 (mapE G) j
      = (((∑ b ∈ Finset.range 128, ∑ p ∈ Finset.range 8192, quad (γ a0 G b p)) * (1 / 1048576) : ℝ) : EReal) := by
  unfold result
  rw [ValueIdx.hostDivf_apply, ValueIdx.hostReduceAdd_apply, ValueIdx.constant_apply, ValueIdx.constant_apply, Ideal.ofBits_zero_f32, bits_128,
    Ideal.hostReduceAdd_r1_a0, zero_add]
  have e : ∀ b : Fin 128, Host.divf (F := Ideal) (Host.reduceAdd (mulf (taken a0 (mapE G)) (taken a0 (mapE G))) (constant S_ .f32 0x00000000#32) reducesTo_S128x8192_S128_d1 h_S_)
      (broadcastInDim S128 ![] bcast_S_S128 (constant S_ .f32 0x46000000#32)) (Idealize.ShloMosaic.ix1 b)
        = (((∑ p ∈ Finset.range 8192, quad (γ a0 G b.val p)) / 8192 : ℝ) : EReal) := fun b => by
    rw [ValueIdx.hostDivf_apply, sample_real h, broadcastInDim_scalar_apply, ValueIdx.constant_apply, bits_8192, div_real _ _ (by norm_num)]
    rfl
  rw [Finset.sum_congr rfl fun b _ => e b, ← coe_sum, div_real _ _ (by norm_num),
    ← Finset.sum_range (fun b => (∑ p ∈ Finset.range 8192, quad (γ a0 G b p)) / 8192), ← Finset.sum_div]
  refine congrArg _ ?_
  rw [div_div, div_eq_mul_inv]
  norm_num

end Cert.Proof.RefValue

end
-- ==== Proof.Equal.lean ====
/-
  The program and the reference give the same result over the reals.
-/
module

public import proofs.«01_k».proof.Defs
public import proofs.«01_k».proof.Proof.Frames
public import proofs.«01_k».proof.Proof.RefValue

@[expose] public section

noncomputable section

namespace Cert.Proof

open Idealize.ShloMosaic Idealize.SL.Sem
open Cert.Proof.Tile (resK run_main)

/-- The two values, when the coordinates lie in the map and the map is real. -/
theorem values_eq (a0 : FVec Ideal Cert.KernelIdeal.S128x8192x2 .f32) (a1 : FVec Ideal Cert.KernelIdeal.S128x256x256 .f32)
    (h : Cert.Pre_finite_map.fn a0 a1 = fun _ => 1#1) : RefTerm.result a0 a1 = resK a0 a1 := by
  have hw : ∀ i, (Trip.wordOf (a0 i)).toNat < 256 := fun i => finite_map_word h i
  obtain ⟨G, hG⟩ := Classical.axiom_of_choice (finite_map_real h)
  have e : a1 = KernelValue.mapE G := funext hG
  subst e
  funext j
  exact (RefValue.result_real hw j).trans (KernelValue.resK_real hw j).symm

/-- `Cert.algebraic_KernelIdeal_ReferenceIdeal_pre_finite_map`: both runs end at the value `resK` of the arguments. -/
theorem algebraic : Cert.algebraic_KernelIdeal_ReferenceIdeal_pre_finite_map := fun m g m' g' h hm => by
  refine ⟨fun c => (show Buf (Elt Ideal) (Tile.rLoc c) from resK (F := Ideal) (m (Tile.a0Loc c)) (m (Tile.a1Loc c))), ?_, ?_⟩
  · exact (θ_run Cert.KernelIdeal.defs _ _).mono (fun _ q c => ⟨(q.1 c).2.2, (q.1 c).1, (q.1 c).2.1⟩)
      (run_main (F := Ideal) m g (preOK_finite h))
  · refine (θ_run Cert.ReferenceIdeal.defs _ _).mono (fun _ q c => ⟨(q c).1.trans ?_, (q c).2⟩)
      (Cert.ReferenceIdeal.Value.run (F := Ideal) m' g')
    rw [RefTerm.res_eq, (hm c).1, (hm c).2]
    exact values_eq _ _ (h c)

end Cert.Proof

end
-- ==== Proof.lean ====
/-
  The proof of `Cert.Claim` (Defs.lean): the side conditions, then each claim from the module that proves it.
-/
module

public import proofs.«01_k».proof.Defs
public import proofs.«01_k».proof.Proof.Frames
public import proofs.«01_k».proof.Proof.Equal

@[expose] public section

noncomputable section

namespace Cert.Proof

/-- The certificate's claim. -/
theorem claim : Cert.Claim := ⟨Cert.Kernel.Gen.facts, Cert.KernelIdeal.Gen.facts, Cert.ReferenceIdeal.Gen.facts,
  Cert.Pre_points_in_map.Gen.facts, Cert.Pre_finite_map.Gen.facts,
  frame_kernel, frame_ideal, frame_ideal_finite, frame_reference, frame_reference_finite, trivial, algebraic⟩

end Cert.Proof
